-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.sign_bit.Statement Cert.KernelIdeal.S32x32 .f32

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S32x64x1 : Shape := ⟨3, ![32, 64, 1]⟩
abbrev S32x64x32000 : Shape := ⟨3, ![32, 64, 32000]⟩
abbrev S32 : Shape := ⟨1, ![32]⟩
abbrev S32x64 : Shape := ⟨2, ![32, 64]⟩
abbrev S_ : Shape := ⟨0, ![]⟩

class Facts : Prop where
  reducesTo_S32x64x32000_S32x64_d2 : S32x64x32000.ReducesTo [2] S32x64
  h_S_ : 0 < S_.numel
  bcast_S_S32x64 : S_.BroadcastsInDim S32x64 (![] : Fin 0 → Fin S32x64.rank)
  reducesTo_S32x64_S_d0_1 : S32x64.ReducesTo [0, 1] S_

variable [Facts]

def fn {F : FTy → Type} [FloatOps F] (main_arg0 : FVec F S32x64x1 .f32) (main_arg1 : FVec F S32x64x1 .f32) (main_arg2 : FVec F S32x64x32000 .f32) (main_arg3 : FVec F S32 .f32) (main_arg4 : IVec S32x64 32) : IVec S_ 1 :=
  let main_cst : FVec F S_ .f32 := constant S_ .f32 0xFF800000#32
  let main_v0 : FVec F S32x64 .f32 := (fun x v => Host.reduce FloatOps.maximumf x v reducesTo_S32x64x32000_S32x64_d2 h_S_) main_arg2 main_cst
  let main_v1 : FVec F S32x64 .f32 := Host.absf main_v0
  let main_cst_0 : FVec F S_ .f32 := constant S_ .f32 0x7F800000#32
  let main_v2 : FVec F S32x64 .f32 := broadcastInDim S32x64 ![] bcast_S_S32x64 main_cst_0
  let main_v3 : IVec S32x64 1 := cmpf .olt main_v1 main_v2
  let main_c : IVec S_ 1 := constantI S_ 1 1#1
  let main_v4 : IVec S_ 1 := (fun x v => Host.reduce IntOp.andi x v reducesTo_S32x64_S_d0_1 h_S_) main_v3 main_c
  main_v4
-- ==== Kernel.lean ====
abbrev S32x64x1 : Shape := ⟨3, ![32, 64, 1]⟩
abbrev S32x64x32000 : Shape := ⟨3, ![32, 64, 32000]⟩
abbrev S32 : Shape := ⟨1, ![32]⟩
abbrev S32x64 : Shape := ⟨2, ![32, 64]⟩
abbrev S2048x32000 : Shape := ⟨2, ![2048, 32000]⟩
abbrev S1x32 : Shape := ⟨2, ![1, 32]⟩
abbrev S32x1 : Shape := ⟨2, ![32, 1]⟩
abbrev S1x1 : Shape := ⟨2, ![1, 1]⟩
abbrev S64x32000 : Shape := ⟨2, ![64, 32000]⟩
abbrev S1x64x1 : Shape := ⟨3, ![1, 64, 1]⟩
abbrev S64 : Shape := ⟨1, ![64]⟩
abbrev S64x1 : Shape := ⟨2, ![64, 1]⟩
abbrev S1 : Shape := ⟨1, ![1]⟩
abbrev S1x1x1 : Shape := ⟨3, ![1, 1, 1]⟩
abbrev S32x32 : Shape := ⟨2, ![32, 32]⟩
abbrev S1x32x32 : Shape := ⟨3, ![1, 32, 32]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S32x64x1, .f32⟩
  | .hbm, ⟨1, _⟩ => ⟨S32x64x1, .f32⟩
  | .hbm, ⟨2, _⟩ => ⟨S32x64x32000, .f32⟩
  | .hbm, ⟨3, _⟩ => ⟨S32, .f32⟩
  | .hbm, ⟨4, _⟩ => ⟨S32x64, .i32⟩
  | .hbm, ⟨5, _⟩ => ⟨S2048x32000, .f32⟩
  | .hbm, ⟨6, _⟩ => ⟨S1x32, .f32⟩
  | .hbm, ⟨7, _⟩ => ⟨S32x1, .f32⟩
  | .hbm, ⟨8, _⟩ => ⟨S32x64x1, .i32⟩
  | .hbm, ⟨9, _⟩ => ⟨S1x1, .f32⟩
  | .hbm, ⟨10, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S1x64x1, .f32⟩
  | .local _ .vmem, ⟨3, _⟩ => ⟨S1x64x1, .f32⟩
  | .local _ .vmem, ⟨4, _⟩ => ⟨S1x64x1, .f32⟩
  | .local _ .vmem, ⟨5, _⟩ => ⟨S1x64x1, .f32⟩
  | .local _ .vmem, ⟨6, _⟩ => ⟨S1x32, .f32⟩
  | .local _ .vmem, ⟨7, _⟩ => ⟨S32x1, .f32⟩
  | .local _ .vmem, ⟨8, _⟩ => ⟨S1x64x1, .i32⟩
  | .local _ .vmem, ⟨9, _⟩ => ⟨S1x64x1, .i32⟩
  | .local _ .vmem, ⟨10, _⟩ => ⟨S1x1, .f32⟩
  | .local _ .vmem, ⟨11, _⟩ => ⟨S1x32, .f32⟩
  | .local _ .vmem, ⟨12, _⟩ => ⟨S32x1, .f32⟩
  | .local _ .vmem, ⟨13, _⟩ => ⟨S1x32, .f32⟩
  | .local _ .vmem, ⟨14, _⟩ => ⟨S32x1, .f32⟩
  | _, _ => ⟨S32x64x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v213 : BitVec 1 := Scalar.cmpi .eq arg0 c31_i32
  let v214 : BitVec 32 := Scalar.extui v213
  let c0_i32 : BitVec 32 := 0#32
  let v215 : BitVec 1 := Scalar.cmpi .ne v214 c0_i32
  v215

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F]
-- ==== ReferenceIdeal.lean ====
abbrev S32x64x1 : Shape := ⟨3, ![32, 64, 1]⟩
abbrev S32x64x32000 : Shape := ⟨3, ![32, 64, 32000]⟩
abbrev S32 : Shape := ⟨1, ![32]⟩
abbrev S32x64 : Shape := ⟨2, ![32, 64]⟩
abbrev S_ : Shape := ⟨0, ![]⟩
abbrev S32x1 : Shape := ⟨2, ![32, 1]⟩
abbrev S32x63 : Shape := ⟨2, ![32, 63]⟩
abbrev S32x5 : Shape := ⟨2, ![32, 5]⟩
abbrev S32x5x1 : Shape := ⟨3, ![32, 5, 1]⟩
abbrev S32x5x2 : Shape := ⟨3, ![32, 5, 2]⟩
abbrev S1x32 : Shape := ⟨2, ![1, 32]⟩
abbrev S1x1x1x32 : Shape := ⟨4, ![1, 1, 1, 32]⟩
abbrev S32x1x1x32 : Shape := ⟨4, ![32, 1, 1, 32]⟩
abbrev S32x32 : Shape := ⟨2, ![32, 32]⟩

abbrev nBuf : Space → Nat
  | .hbm => 140
  | .vmem => 0
  | .smem => 0
  | _ => 0

abbrev hbmTy0_0 (i : Nat) : BufTy := match i % 128 with
  | 0 => ⟨S32x64x1, .f32⟩
  | 1 => ⟨S32x64x1, .f32⟩
  | 2 => ⟨S32x64x32000, .f32⟩
  | 3 => ⟨S32, .f32⟩
  | 4 => ⟨S32x64, .i32⟩
  | 5 => ⟨S_, .i32⟩
  | 6 => ⟨S32x64, .i32⟩
  | 7 => ⟨S32x64, .i1⟩
  | 8 => ⟨S32x64, .i32⟩
  | 9 => ⟨S_, .i32⟩
  | 10 => ⟨S_, .i32⟩
  | 11 => ⟨S32x64, .i32⟩
  | 12 => ⟨S_, .i32⟩
  | 13 => ⟨S32x64, .i32⟩
  | 14 => ⟨S32x64, .i1⟩
  | 15 => ⟨S_, .i1⟩
  | 16 => ⟨S32x1, .i1⟩
  | 17 => ⟨S32x63, .i1⟩
  | 18 => ⟨S32x64, .i1⟩
  | 19 => ⟨S32x64, .f32⟩
  | 20 => ⟨S32x64x1, .f32⟩
  | 21 => ⟨S32x64x1, .f32⟩
  | 22 => ⟨S32x64x1, .f32⟩
  | 23 => ⟨S32x64, .f32⟩
  | 24 => ⟨S_, .f32⟩
  | 25 => ⟨S32, .f32⟩
  | 26 => ⟨S_, .f32⟩
  | 27 => ⟨S32x64, .f32⟩
  | 28 => ⟨S_, .f32⟩
  | 29 => ⟨S32x64, .f32⟩
  | 30 => ⟨S32x64, .f32⟩
  | 31 => ⟨S32x64x1, .f32⟩
  | 32 => ⟨S32x64x32000, .f32⟩
  | 33 => ⟨S32x64x32000, .f32⟩
  | 34 => ⟨S32x64x32000, .f32⟩
  | 35 => ⟨S_, .f32⟩
  | 36 => ⟨S32x64, .f32⟩
  | 37 => ⟨S32x64x1, .f32⟩
  | 38 => ⟨S32x64x1, .f32⟩
  | 39 => ⟨S32x64x32000, .f32⟩
  | 40 => ⟨S32x64x32000, .f32⟩
  | 41 => ⟨S32x64x32000, .f32⟩
  | 42 => ⟨S32x64x32000, .f32⟩
  | 43 => ⟨S_, .f32⟩
  | 44 => ⟨S32x64x32000, .f32⟩
  | 45 => ⟨S32x64x32000, .i1⟩
  | 46 => ⟨S_, .f32⟩
  | 47 => ⟨S_, .f32⟩
  | 48 => ⟨S32x64x32000, .f32⟩
  | 49 => ⟨S32x64x32000, .f32⟩
  | 50 => ⟨S_, .f32⟩
  | 51 => ⟨S32x64, .f32⟩
  | 52 => ⟨S32x5, .f32⟩
  | 53 => ⟨S32x5, .i32⟩
  | 54 => ⟨S32, .i32⟩
  | 55 => ⟨S32x1, .i32⟩
  | 56 => ⟨S_, .i32⟩
  | 57 => ⟨S32x1, .i32⟩
  | 58 => ⟨S32x1, .i1⟩
  | 59 => ⟨S_, .i32⟩
  | 60 => ⟨S32x1, .i32⟩
  | 61 => ⟨S32x1, .i32⟩
  | 62 => ⟨S32x1, .i32⟩
  | 63 => ⟨S_, .i32⟩
  | 64 => ⟨S32x5, .i32⟩
  | 65 => ⟨S32x5, .i1⟩
  | 66 => ⟨S_, .i32⟩
  | 67 => ⟨S32x5, .i32⟩
  | 68 => ⟨S32x5, .i32⟩
  | 69 => ⟨S32x5, .i32⟩
  | 70 => ⟨S32x5, .i32⟩
  | 71 => ⟨S32x5x1, .i32⟩
  | 72 => ⟨S32x5x1, .i32⟩
  | 73 => ⟨S32x5x2, .i32⟩
  | 74 => ⟨S32x5x1, .f32⟩
  | 75 => ⟨S32x5, .f32⟩
  | 76 => ⟨S_, .f32⟩
  | 77 => ⟨S32, .f32⟩
  | 78 => ⟨S32, .f32⟩
  | 79 => ⟨S1x32, .f32⟩
  | 80 => ⟨S1x1x1x32, .f32⟩
  | 81 => ⟨S32x1x1x32, .f32⟩
  | 82 => ⟨S32x32, .f32⟩
  | 83 => ⟨S32x32, .f32⟩
  | 84 => ⟨S32x64, .f32⟩
  | 85 => ⟨S_, .f32⟩
  | 86 => ⟨S32, .f32⟩
  | 87 => ⟨S_, .f32⟩
  | 88 => ⟨S32, .f32⟩
  | 89 => ⟨S32, .f32⟩
  | 90 => ⟨S1x32, .f32⟩
  | 91 => ⟨S1x1x1x32, .f32⟩
  | 92 => ⟨S32x1x1x32, .f32⟩
  | 93 => ⟨S32x32, .f32⟩
  | 94 => ⟨S32x32, .f32⟩
  | 95 => ⟨S1x32, .f32⟩
  | 96 => ⟨S1x1x1x32, .f32⟩
  | 97 => ⟨S32x1x1x32, .f32⟩
  | 98 => ⟨S32x32, .f32⟩
  | 99 => ⟨S32x32, .f32⟩
  | 100 => ⟨S32x32, .f32⟩
  | 101 => ⟨S32x32, .f32⟩
  | 102 => ⟨S_, .f32⟩
  | 103 => ⟨S32x32, .f32⟩
  | 104 => ⟨S32x32, .i1⟩
  | 105 => ⟨S_, .f32⟩
  | 106 => ⟨S32x32, .f32⟩
  | 107 => ⟨S32x32, .i1⟩
  | 108 => ⟨S32x32, .i1⟩
  | 109 => ⟨S32x32, .f32⟩
  | 110 => ⟨S32x32, .f32⟩
  | 111 => ⟨S32x32, .f32⟩
  | 112 => ⟨S32x32, .f32⟩
  | 113 => ⟨S32x32, .f32⟩
  | 114 => ⟨S32x32, .f32⟩
  | 115 => ⟨S_, .f32⟩
  | 116 => ⟨S32x32, .f32⟩
  | 117 => ⟨S32x32, .i1⟩
  | 118 => ⟨S_, .f32⟩
  | 119 => ⟨S32x32, .f32⟩
  | 120 => ⟨S32x32, .i1⟩
  | 121 => ⟨S32x32, .i1⟩
  | 122 => ⟨S32x32, .f32⟩
  | 123 => ⟨S32x32, .f32⟩
  | 124 => ⟨S32x32, .f32⟩
  | 125 => ⟨S32x32, .f32⟩
  | 126 => ⟨S32x32, .f32⟩
  | 127 => ⟨S_, .f32⟩
  | _ => ⟨S32x64x1, .f32⟩

abbrev hbmTy0_1 (i : Nat) : BufTy := match i % 128 with
  | 0 => ⟨S32x32, .f32⟩
  | 1 => ⟨S32x32, .f32⟩
  | 2 => ⟨S32x32, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S32x64x1, .f32⟩

abbrev hbmTy (i : Nat) : BufTy := match i / 128 with
  | 0 => hbmTy0_0 i
  | 1 => hbmTy0_1 i
  | _ => ⟨S32x64x1, .f32⟩

abbrev bufTy : (tb : Table) → Fin (tcTables nBuf tb) → BufTy
  | .hbm, ⟨i, _⟩ => hbmTy i
  | _, _ => ⟨S32x64x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_values : Ref sig .tc := ⟨.hbm, 52, rfl⟩
abbrev main_indices : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_c_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_cst_13 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_14 : Ref sig .tc := ⟨.hbm, 115, rfl⟩
abbrev main_v74 : Ref sig .tc := ⟨.hbm, 116, rfl⟩
abbrev main_v75 : Ref sig .tc := ⟨.hbm, 117, rfl⟩
abbrev main_cst_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_call3_cst : Ref sig .tc := ⟨.hbm, 127, rfl⟩
abbrev main_call3_v0 : Ref sig .tc := ⟨.hbm, 128, rfl⟩
abbrev main_v84 : Ref sig .tc := ⟨.hbm, 129, rfl⟩
abbrev main_v85 : Ref sig .tc := ⟨.hbm, 130, rfl⟩
abbrev main_cst_16 : Ref sig .tc := ⟨.hbm, 131, rfl⟩
abbrev main_v86 : Ref sig .tc := ⟨.hbm, 132, rfl⟩
abbrev main_cst_17 : Ref sig .tc := ⟨.hbm, 133, rfl⟩
abbrev main_v87 : Ref sig .tc := ⟨.hbm, 134, rfl⟩
abbrev main_cst_18 : Ref sig .tc := ⟨.hbm, 135, rfl⟩
abbrev main_v88 : Ref sig .tc := ⟨.hbm, 136, rfl⟩
abbrev main_v89 : Ref sig .tc := ⟨.hbm, 137, rfl⟩
abbrev main_cst_19 : Ref sig .tc := ⟨.hbm, 138, rfl⟩
abbrev main_v90 : Ref sig .tc := ⟨.hbm, 139, rfl⟩

abbrev nD : Nat := 1
abbrev τ : Topo := Topo.v7x

variable {F : FTy → Type} [FloatOps F]
-- ==== Proof.KernelBody.lean ====
/- One grid point of the kernel: what the body leaves in the four carried rows and, at the last point,
   in the output. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.Value
public import Idealize.ShloMosaic.Lib.Tactic

@[expose] public section

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [BitOps F]

local notation "𝕄" => MT nD τ sig Unit (Elt F) ℕ (UR sig nD τ) ℕ

/-- The row positions `0 … 63`, as the kernel counts them. -/
abbrev pos : IVec S64x1 32 := iota .tc S64x1 32 [0] iota_S64x1_d0_w32

/-- The batch positions `0 … 31` along a row. -/
abbrev lane : IVec S1x32 32 := iota .tc S1x32 32 [1] iota_S1x32_d1_w32

/-- The batch's predicted score: the five picked rounds over the block `x0` of scores, the block `x1` of logits and the
    block `x5` of tokens, their sum divided by the number of counted positions. -/
def predOf (x0 : Vec F S64x32000 .f32) (x1 : Vec F S1x64x1 .f32) (x5 : Vec F S1x64x1 .i32) : F .f32 :=
  k0_pay22 pos (k0_pay8 x5) (k0_pay9 x0 x5) (k0_pay10 x5 x1)
    (k0_pay19 pos (k0_pay9 x0 x5) (k0_pay10 x5 x1) (k0_pay13 pos (k0_pay9 x0 x5) (k0_pay10 x5 x1) 64#32)
      (k0_pay14 pos (k0_pay9 x0 x5) 64#32) (k0_pay15 pos (k0_pay9 x0 x5) 64#32)
      (k0_pay16 pos (k0_pay9 x0 x5) (k0_pay10 x5 x1) 64#32))
    (k0_pay20 pos (k0_pay9 x0 x5) (k0_pay14 pos (k0_pay9 x0 x5) 64#32) (k0_pay15 pos (k0_pay9 x0 x5) 64#32))
    (k0_pay21 pos (k0_pay9 x0 x5) (k0_pay14 pos (k0_pay9 x0 x5) 64#32) (k0_pay15 pos (k0_pay9 x0 x5) 64#32))

/-- The batch's label: the mean of the counted target entries of the block `x2` over 64 positions. -/
def labelOf (x2 : Vec F S1x64x1 .f32) (x5 : Vec F S1x64x1 .i32) : F .f32 := k0_pay23 (k0_pay7 x5) x2

/-- The row `old` with the batch's value `x` at its place. -/
def addRow (i : grid0.Coords) (x : F .f32) (old : Vec F S1x32 .f32) : FVec F S1x32 .f32 :=
  k0_pay24 (BitVec.ofNat 32 (i 0).val) x lane old

/-- The column `old` with the batch's value `x` at its place. -/
def addCol (i : grid0.Coords) (x : F .f32) (old : Vec F S32x1 .f32) : FVec F S32x1 .f32 :=
  k0_pay25 (BitVec.ofNat 32 (i 0).val) x old

/-- The loss, from the predicted scores and the labels as rows and as columns and the times as a row and a column. -/
def lossOf (x3 : Vec F S1x32 .f32) (x4 : Vec F S32x1 .f32) (pr : Vec F S1x32 .f32) (pc : Vec F S32x1 .f32)
    (lr : Vec F S1x32 .f32) (lc : Vec F S32x1 .f32) : FVec F S1x1 .f32 :=
  k0_pay1 pr pc (k0_pay2 x3 x4) (k0_pay4 lr lc x3 x4) (k0_pay5 lr lc)

/-- Two zero offsets. -/
theorem off2 : (![0, 0] : Fin 2 → Nat) = fun _ => 0 := funext fun a => by fin_cases a <;> rfl
/-- Three zero offsets. -/
theorem off3 : (![0, 0, 0] : Fin 3 → Nat) = fun _ => 0 := funext fun a => by fin_cases a <;> rfl

/-- A buffer stored over in whole reads what was stored. -/
theorem read_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

set_option maxHeartbeats 1600000 in
/-- A point that is not the last: the inputs stay, each carried row takes the batch's value at its place, and the
    output buffer is not touched. -/
theorem body_mid (c : Dev nD) (i : grid0.Coords) (arg1 : Memref sig .tc .vmem S64x32000 .f32) (harg1 : arg1.IsWhole) (arg2 : Memref sig .tc .vmem S1x64x1 .f32) (harg2 : arg2.IsWhole) (arg3 : Memref sig .tc .vmem S1x64x1 .f32) (harg3 : arg3.IsWhole)
    (arg4 : Memref sig .tc .vmem S1x32 .f32) (harg4 : arg4.IsWhole) (arg5 : Memref sig .tc .vmem S32x1 .f32) (harg5 : arg5.IsWhole) (arg6 : Memref sig .tc .vmem S1x64x1 .i32) (harg6 : arg6.IsWhole) (arg7 : Memref sig .tc .vmem S1x1 .f32) (harg7 : arg7.IsWhole)
    (arg8 : Memref sig .tc .vmem S1x32 .f32) (harg8 : arg8.IsWhole) (arg9 : Memref sig .tc .vmem S32x1 .f32) (harg9 : arg9.IsWhole) (arg10 : Memref sig .tc .vmem S1x32 .f32) (harg10 : arg10.IsWhole) (arg11 : Memref sig .tc .vmem S32x1 .f32) (harg11 : arg11.IsWhole)
    (hc : ¬k0_cond1 i = 1#1) (x6 : Vec F S1x1 .f32) (x0 : Vec F S64x32000 .f32) (x1 : Vec F S1x64x1 .f32) (x2 : Vec F S1x64x1 .f32) (x3 : Vec F S1x32 .f32) (x4 : Vec F S32x1 .f32) (x5 : Vec F S1x64x1 .i32)
    (pr : Vec F S1x32 .f32) (pc : Vec F S32x1 .f32) (lr : Vec F S1x32 .f32) (lc : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare pr ∗ owns (c : Thread nD τ) arg9 fullShare pc ∗ owns (c : Thread nD τ) arg10 fullShare lr ∗ owns (c : Thread nD τ) arg11 fullShare lc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (addRow i (predOf x0 x1 x5) pr) ∗ owns (c : Thread nD τ) arg9 fullShare (addCol i (predOf x0 x1 x5) pc) ∗ owns (c : Thread nD τ) arg10 fullShare (addRow i (labelOf x2 x5) lr) ∗ owns (c : Thread nD τ) arg11 fullShare (addCol i (labelOf x2 x5) lc)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part2_eq_skeleton, k0_part3_eq_skeleton, k0_part4_eq_skeleton, k0_part5_eq_skeleton, k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0; obtain rfl := harg9.eq_unread hfs1; obtain rfl := harg10.eq_unread hfs2; obtain rfl := harg11.eq_unread hfs3
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr
    swap; · iexact HS0
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS1]
  · iexists _; isplitr
    swap; · iexact HS1
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS2]
  · iexists _; isplitr
    swap; · iexact HS2
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  · iexists _; isplitr
    swap; · iexact HS3
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl

set_option maxHeartbeats 1600000 in
/-- The last point: the inputs stay, each carried row takes the batch's value at its place, and the output buffer ends
    at the loss of the four rows. -/
theorem body_last (c : Dev nD) (i : grid0.Coords) (arg1 : Memref sig .tc .vmem S64x32000 .f32) (harg1 : arg1.IsWhole) (arg2 : Memref sig .tc .vmem S1x64x1 .f32) (harg2 : arg2.IsWhole) (arg3 : Memref sig .tc .vmem S1x64x1 .f32) (harg3 : arg3.IsWhole)
    (arg4 : Memref sig .tc .vmem S1x32 .f32) (harg4 : arg4.IsWhole) (arg5 : Memref sig .tc .vmem S32x1 .f32) (harg5 : arg5.IsWhole) (arg6 : Memref sig .tc .vmem S1x64x1 .i32) (harg6 : arg6.IsWhole) (arg7 : Memref sig .tc .vmem S1x1 .f32) (harg7 : arg7.IsWhole)
    (arg8 : Memref sig .tc .vmem S1x32 .f32) (harg8 : arg8.IsWhole) (arg9 : Memref sig .tc .vmem S32x1 .f32) (harg9 : arg9.IsWhole) (arg10 : Memref sig .tc .vmem S1x32 .f32) (harg10 : arg10.IsWhole) (arg11 : Memref sig .tc .vmem S32x1 .f32) (harg11 : arg11.IsWhole)
    (hc : k0_cond1 i = 1#1) (x0 : Vec F S64x32000 .f32) (x1 : Vec F S1x64x1 .f32) (x2 : Vec F S1x64x1 .f32) (x3 : Vec F S1x32 .f32) (x4 : Vec F S32x1 .f32) (x5 : Vec F S1x64x1 .i32)
    (pr : Vec F S1x32 .f32) (pc : Vec F S32x1 .f32) (lr : Vec F S1x32 .f32) (lc : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare pr ∗ owns (c : Thread nD τ) arg9 fullShare pc ∗ owns (c : Thread nD τ) arg10 fullShare lr ∗ owns (c : Thread nD τ) arg11 fullShare lc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (lossOf x3 x4 (addRow i (predOf x0 x1 x5) pr) (addCol i (predOf x0 x1 x5) pc) (addRow i (labelOf x2 x5) lr) (addCol i (labelOf x2 x5) lc))
            ∗ owns (c : Thread nD τ) arg8 fullShare (addRow i (predOf x0 x1 x5) pr) ∗ owns (c : Thread nD τ) arg9 fullShare (addCol i (predOf x0 x1 x5) pc) ∗ owns (c : Thread nD τ) arg10 fullShare (addRow i (labelOf x2 x5) lr) ∗ owns (c : Thread nD τ) arg11 fullShare (addCol i (labelOf x2 x5) lc)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part2_eq_skeleton, k0_part3_eq_skeleton, k0_part4_eq_skeleton, k0_part5_eq_skeleton, k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0; obtain rfl := harg9.eq_unread hfs1; obtain rfl := harg10.eq_unread hfs2; obtain rfl := harg11.eq_unread hfs3
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_store _ _ off2]
    simp only [View.readCov_unit_zero (S := S1x32) _ off2, View.readCov_unit_zero (S := S32x1) _ off2, View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS0]
  · iexists _; isplitr
    swap; · iexact HS0
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS1]
  · iexists _; isplitr
    swap; · iexact HS1
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS2]
  · iexists _; isplitr
    swap; · iexact HS2
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  · iexists _; isplitr
    swap; · iexact HS3
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl

end Cert.Kernel.Region

end
-- ==== Proof.KernelFrame.lean ====
/- What the kernel's run leaves: its arguments unchanged and its counters at zero. -/
module

public import proofs.«01_k».proof.Proof.KernelRegion
public import Idealize.ShloMosaic.Lib.Claim
public import Idealize.ShloMosaic.Lib.Pipeline.Value

@[expose] public section

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel.Gen

variable {F : FTy → Type} [BitOps F]

variable (m : (ℓ : Loc nD τ sig) → Buf (Elt F) ℓ) (ρ : Dev nD → PrngReg)

/-- Every weakly fair execution terminates with the argument arrays as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every weakly fair execution terminates with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Region

end
-- ==== Proof.IdealBody.lean ====
/- One grid point of the idealized kernel: what the body leaves in the four carried rows and, at the last point,
   in the output. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Tactic

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The row positions `0 … 63`, as the kernel counts them. -/
abbrev pos : IVec S64x1 32 := iota .tc S64x1 32 [0] iota_S64x1_d0_w32

/-- The batch positions `0 … 31` along a row. -/
abbrev lane : IVec S1x32 32 := iota .tc S1x32 32 [1] iota_S1x32_d1_w32

/-- The batch's predicted score: the five picked rounds over the block `x0` of scores, the block `x1` of logits and the
    block `x5` of tokens, their sum divided by the number of counted positions. -/
def predOf (x0 : Vec F S64x32000 .f32) (x1 : Vec F S1x64x1 .f32) (x5 : Vec F S1x64x1 .i32) : F .f32 :=
  k0_pay23 pos (k0_pay9 x5) (k0_pay10 x0 x5) (k0_pay11 x5 x1)
    (k0_pay20 pos (k0_pay10 x0 x5) (k0_pay11 x5 x1) (k0_pay14 pos (k0_pay10 x0 x5) (k0_pay11 x5 x1) 64#32)
      (k0_pay15 pos (k0_pay10 x0 x5) 64#32) (k0_pay16 pos (k0_pay10 x0 x5) 64#32)
      (k0_pay17 pos (k0_pay10 x0 x5) (k0_pay11 x5 x1) 64#32))
    (k0_pay21 pos (k0_pay10 x0 x5) (k0_pay15 pos (k0_pay10 x0 x5) 64#32) (k0_pay16 pos (k0_pay10 x0 x5) 64#32))
    (k0_pay22 pos (k0_pay10 x0 x5) (k0_pay15 pos (k0_pay10 x0 x5) 64#32) (k0_pay16 pos (k0_pay10 x0 x5) 64#32))

/-- The batch's label: the mean of the counted target entries of the block `x2` over 64 positions. -/
def labelOf (x2 : Vec F S1x64x1 .f32) (x5 : Vec F S1x64x1 .i32) : F .f32 := k0_pay24 (k0_pay8 x5) x2

/-- The row `old` with the batch's value `x` at its place. -/
def addRow (i : grid0.Coords) (x : F .f32) (old : Vec F S1x32 .f32) : FVec F S1x32 .f32 :=
  k0_pay25 (BitVec.ofNat 32 (i 0).val) x lane old

/-- The column `old` with the batch's value `x` at its place. -/
def addCol (i : grid0.Coords) (x : F .f32) (old : Vec F S32x1 .f32) : FVec F S32x1 .f32 :=
  k0_pay26 (BitVec.ofNat 32 (i 0).val) x old

/-- The loss, from the predicted scores and the labels as rows and as columns and the times as a row and a column. -/
def lossOf (x3 : Vec F S1x32 .f32) (x4 : Vec F S32x1 .f32) (pr : Vec F S1x32 .f32) (pc : Vec F S32x1 .f32)
    (lr : Vec F S1x32 .f32) (lc : Vec F S32x1 .f32) : FVec F S1x1 .f32 :=
  k0_pay1 pr pc (k0_pay4 lr lc x3 x4) (k0_pay5 lr lc x3 x4) k0_pay6

/-- Two zero offsets. -/
theorem off2 : (![0, 0] : Fin 2 → Nat) = fun _ => 0 := funext fun a => by fin_cases a <;> rfl
/-- Three zero offsets. -/
theorem off3 : (![0, 0, 0] : Fin 3 → Nat) = fun _ => 0 := funext fun a => by fin_cases a <;> rfl

/-- A buffer stored over in whole reads what was stored. -/
theorem read_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

set_option maxHeartbeats 1600000 in
/-- A point that is not the last: the inputs stay, each carried row takes the batch's value at its place, and the
    output buffer is not touched. -/
theorem body_mid (c : Dev nD) (i : grid0.Coords) (arg1 : Memref sig .tc .vmem S64x32000 .f32) (harg1 : arg1.IsWhole) (arg2 : Memref sig .tc .vmem S1x64x1 .f32) (harg2 : arg2.IsWhole) (arg3 : Memref sig .tc .vmem S1x64x1 .f32) (harg3 : arg3.IsWhole)
    (arg4 : Memref sig .tc .vmem S1x32 .f32) (harg4 : arg4.IsWhole) (arg5 : Memref sig .tc .vmem S32x1 .f32) (harg5 : arg5.IsWhole) (arg6 : Memref sig .tc .vmem S1x64x1 .i32) (harg6 : arg6.IsWhole) (arg7 : Memref sig .tc .vmem S1x1 .f32) (harg7 : arg7.IsWhole)
    (arg8 : Memref sig .tc .vmem S1x32 .f32) (harg8 : arg8.IsWhole) (arg9 : Memref sig .tc .vmem S32x1 .f32) (harg9 : arg9.IsWhole) (arg10 : Memref sig .tc .vmem S1x32 .f32) (harg10 : arg10.IsWhole) (arg11 : Memref sig .tc .vmem S32x1 .f32) (harg11 : arg11.IsWhole)
    (hc : ¬k0_cond1 i = 1#1) (x6 : Vec F S1x1 .f32) (x0 : Vec F S64x32000 .f32) (x1 : Vec F S1x64x1 .f32) (x2 : Vec F S1x64x1 .f32) (x3 : Vec F S1x32 .f32) (x4 : Vec F S32x1 .f32) (x5 : Vec F S1x64x1 .i32)
    (pr : Vec F S1x32 .f32) (pc : Vec F S32x1 .f32) (lr : Vec F S1x32 .f32) (lc : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare pr ∗ owns (c : Thread nD τ) arg9 fullShare pc ∗ owns (c : Thread nD τ) arg10 fullShare lr ∗ owns (c : Thread nD τ) arg11 fullShare lc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (addRow i (predOf x0 x1 x5) pr) ∗ owns (c : Thread nD τ) arg9 fullShare (addCol i (predOf x0 x1 x5) pc) ∗ owns (c : Thread nD τ) arg10 fullShare (addRow i (labelOf x2 x5) lr) ∗ owns (c : Thread nD τ) arg11 fullShare (addCol i (labelOf x2 x5) lc)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part2_eq_skeleton, k0_part3_eq_skeleton, k0_part4_eq_skeleton, k0_part5_eq_skeleton, k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0; obtain rfl := harg9.eq_unread hfs1; obtain rfl := harg10.eq_unread hfs2; obtain rfl := harg11.eq_unread hfs3
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr
    swap; · iexact HS0
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS1]
  · iexists _; isplitr
    swap; · iexact HS1
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS2]
  · iexists _; isplitr
    swap; · iexact HS2
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  · iexists _; isplitr
    swap; · iexact HS3
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl

set_option maxHeartbeats 1600000 in
/-- The last point: the inputs stay, each carried row takes the batch's value at its place, and the output buffer ends
    at the loss of the four rows. -/
theorem body_last (c : Dev nD) (i : grid0.Coords) (arg1 : Memref sig .tc .vmem S64x32000 .f32) (harg1 : arg1.IsWhole) (arg2 : Memref sig .tc .vmem S1x64x1 .f32) (harg2 : arg2.IsWhole) (arg3 : Memref sig .tc .vmem S1x64x1 .f32) (harg3 : arg3.IsWhole)
    (arg4 : Memref sig .tc .vmem S1x32 .f32) (harg4 : arg4.IsWhole) (arg5 : Memref sig .tc .vmem S32x1 .f32) (harg5 : arg5.IsWhole) (arg6 : Memref sig .tc .vmem S1x64x1 .i32) (harg6 : arg6.IsWhole) (arg7 : Memref sig .tc .vmem S1x1 .f32) (harg7 : arg7.IsWhole)
    (arg8 : Memref sig .tc .vmem S1x32 .f32) (harg8 : arg8.IsWhole) (arg9 : Memref sig .tc .vmem S32x1 .f32) (harg9 : arg9.IsWhole) (arg10 : Memref sig .tc .vmem S1x32 .f32) (harg10 : arg10.IsWhole) (arg11 : Memref sig .tc .vmem S32x1 .f32) (harg11 : arg11.IsWhole)
    (hc : k0_cond1 i = 1#1) (x0 : Vec F S64x32000 .f32) (x1 : Vec F S1x64x1 .f32) (x2 : Vec F S1x64x1 .f32) (x3 : Vec F S1x32 .f32) (x4 : Vec F S32x1 .f32) (x5 : Vec F S1x64x1 .i32)
    (pr : Vec F S1x32 .f32) (pc : Vec F S32x1 .f32) (lr : Vec F S1x32 .f32) (lc : Vec F S32x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare pr ∗ owns (c : Thread nD τ) arg9 fullShare pc ∗ owns (c : Thread nD τ) arg10 fullShare lr ∗ owns (c : Thread nD τ) arg11 fullShare lc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (lossOf x3 x4 (addRow i (predOf x0 x1 x5) pr) (addCol i (predOf x0 x1 x5) pc) (addRow i (labelOf x2 x5) lr) (addCol i (labelOf x2 x5) lc))
            ∗ owns (c : Thread nD τ) arg8 fullShare (addRow i (predOf x0 x1 x5) pr) ∗ owns (c : Thread nD τ) arg9 fullShare (addCol i (predOf x0 x1 x5) pc) ∗ owns (c : Thread nD τ) arg10 fullShare (addRow i (labelOf x2 x5) lr) ∗ owns (c : Thread nD τ) arg11 fullShare (addCol i (labelOf x2 x5) lc)) -∗ K ⟨⟩))
      ⊢ wp frame (wpE (defs₀ (F := F)) Variants.none c none) Set.univ (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part2_eq_skeleton, k0_part3_eq_skeleton, k0_part4_eq_skeleton, k0_part5_eq_skeleton, k0_part6_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0; obtain rfl := harg9.eq_unread hfs1; obtain rfl := harg10.eq_unread hfs2; obtain rfl := harg11.eq_unread hfs3
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_store _ _ off2]
    simp only [View.readCov_unit_zero (S := S1x32) _ off2, View.readCov_unit_zero (S := S32x1) _ off2, View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS0]
  · iexists _; isplitr
    swap; · iexact HS0
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS1]
  · iexists _; isplitr
    swap; · iexact HS1
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  isplitl [HS2]
  · iexists _; isplitr
    swap; · iexact HS2
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl
  · iexists _; isplitr
    swap; · iexact HS3
    ipureintro
    sl_unfold_run_names
    rw [read_store _ _ off2]
    simp only [View.readAt_eq_ld, harg1.read_unread, harg2.read_unread, harg3.read_unread, harg4.read_unread, harg5.read_unread, harg6.read_unread, harg8.read_unread, harg9.read_unread, harg10.read_unread, harg11.read_unread,
      View.ld_unit_zero (S := S64x32000) off2, View.ld_unit_zero (S := S1x64x1) off3, View.ld_unit_zero (S := S1x32) off2, View.ld_unit_zero (S := S32x1) off2]
    rfl

end Cert.KernelIdeal.Region

end
-- ==== Proof.IdealRegion.lean ====
/- The run of the idealized kernel over its 32 grid points. The four carried rows start at anything; before point `n`
   their first `n` places hold the first `n` batches' values, so after the last update every place is known and the
   output is the loss of those values. -/
module

public import proofs.«01_k».proof.Proof.IdealBody
public import Idealize.ShloMosaic.Lib.WordCmp
public import Idealize.ShloMosaic.Lib.Pointwise

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

/-! ## One place of a carried row -/

/-- Two batch positions compared as 32-bit words are compared as numbers. -/
theorem eq_word (a b : ℕ) (ha : a < 32) (hb : b < 32) :
    IntOp.cmpi .eq (BitVec.ofNat 32 a) (BitVec.ofNat 32 b) = if a = b then 1#1 else 0#1 := by
  word_cmp
  by_cases h : a = b <;> simp [h]

/-- A row after a batch's value is put in: that value at the batch's place, the old entry elsewhere. -/
theorem addRow_apply (i : grid0.Coords) (x : F .f32) (old : Vec F S1x32 .f32) (y : S1x32.Idx) :
    addRow i x old y = if (y 1).val = (i 0).val then x else old y := by
  have h0 : (y 1).val < 32 := (y 1).isLt
  have h1 : (i 0).val < 32 := (i 0).isLt
  unfold addRow k0_pay25
  simp only [shapeCast_self]
  show Scalar.select (IntOp.cmpi .eq (lane y) (BitVec.ofNat 32 (i 0).val)) x (old y) = _
  rw [show lane y = BitVec.ofNat 32 (y 1).val from by unfold lane; pointwise, eq_word _ _ h0 h1]
  by_cases h : (y 1).val = (i 0).val <;> simp [h, Scalar.select]

/-- A column after a batch's value is put in: that value at the batch's place, the old entry elsewhere. -/
theorem addCol_apply (i : grid0.Coords) (x : F .f32) (old : Vec F S32x1 .f32) (y : S32x1.Idx) :
    addCol i x old y = if (y 0).val = (i 0).val then x else old y := by
  have h0 : (y 0).val < 32 := (y 0).isLt
  have h1 : (i 0).val < 32 := (i 0).isLt
  unfold addCol k0_pay26
  simp only [shapeCast_self]
  show Scalar.select (IntOp.cmpi .eq (iota Kind.tc S32x1 32 [0] iota_S32x1_d0_w32 y) (BitVec.ofNat 32 (i 0).val)) x (old y) = _
  rw [show iota Kind.tc S32x1 32 [0] iota_S32x1_d0_w32 y = BitVec.ofNat 32 (y 0).val from by pointwise, eq_word _ _ h0 h1]
  by_cases h : (y 0).val = (i 0).val <;> simp [h, Scalar.select]

/-! ## The points -/

/-- The one grid coordinate of a point is its number. -/
theorem coord (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  rw [e0]; omega

/-- The output is stored at the last point only. -/
theorem last_iff (t : Fin cfg0.N) : k0_cond1 (grid0.coords t) = 1#1 ↔ t.val = 31 := by
  have ht : t.val < 32 := Nat.lt_of_lt_of_eq t.isLt N_0
  have e0 := coord t
  simp only [k0_cond1, e0]
  word_cmp

variable (m : (ℓ : Loc nD τ sig) → Buf (Elt F) ℓ) (ρ : Dev nD → PrngReg)

/-- Batch `j`'s predicted score on core `c`. -/
def predAt (c : Dev nD) (j : Fin cfg0.N) : F .f32 := predOf (iblk m c 0 j) (iblk m c 1 j) (iblk m c 5 j)

/-- Batch `j`'s label on core `c`. -/
def labelAt (c : Dev nD) (j : Fin cfg0.N) : F .f32 := labelOf (iblk m c 2 j) (iblk m c 5 j)

/-- A number below 32 as a grid point. -/
abbrev pt (n : ℕ) (h : n < 32) : Fin cfg0.N := ⟨n, Nat.lt_of_lt_of_eq h N_0.symm⟩

/-- The 32 values `f` as a row. -/
def row (f : Fin cfg0.N → F .f32) : Vec F S1x32 .f32 := fun y => f (pt (y 1).val (y 1).isLt)

/-- The 32 values `f` as a column. -/
def col (f : Fin cfg0.N → F .f32) : Vec F S32x1 .f32 := fun y => f (pt (y 0).val (y 0).isLt)

/-- The row `v` holds the values `f` in its first `n` places. -/
def RowTo (f : Fin cfg0.N → F .f32) (n : ℕ) (v : Vec F S1x32 .f32) : Prop := ∀ y : S1x32.Idx, (y 1).val < n → v y = row f y

/-- The column `v` holds the values `f` in its first `n` places. -/
def ColTo (f : Fin cfg0.N → F .f32) (n : ℕ) (v : Vec F S32x1 .f32) : Prop := ∀ y : S32x1.Idx, (y 0).val < n → v y = col f y

/-- Adding point `t`'s number to a row filled up to `t` fills it up to `t + 1`. -/
theorem RowTo.add {f : Fin cfg0.N → F .f32} (t : Fin cfg0.N) {v : Vec F S1x32 .f32} (h : RowTo f t.val v) :
    RowTo f (t.val + 1) (addRow (grid0.coords t) (f t) v) := by
  intro y hy
  rw [addRow_apply, coord]
  by_cases e : (y 1).val = t.val
  · rw [if_pos e]; exact congrArg f (Fin.ext e.symm)
  · rw [if_neg e]; exact h y (by omega)

/-- Adding point `t`'s number to a column filled up to `t` fills it up to `t + 1`. -/
theorem ColTo.add {f : Fin cfg0.N → F .f32} (t : Fin cfg0.N) {v : Vec F S32x1 .f32} (h : ColTo f t.val v) :
    ColTo f (t.val + 1) (addCol (grid0.coords t) (f t) v) := by
  intro y hy
  rw [addCol_apply, coord]
  by_cases e : (y 0).val = t.val
  · rw [if_pos e]; exact congrArg f (Fin.ext e.symm)
  · rw [if_neg e]; exact h y (by omega)

/-- A row filled up to 32 is the whole row. -/
theorem RowTo.full {f : Fin cfg0.N → F .f32} {n : ℕ} {v : Vec F S1x32 .f32} (hn : 32 ≤ n) (h : RowTo f n v) : v = row f :=
  funext fun y => h y (lt_of_lt_of_le (y 1).isLt hn)

/-- A column filled up to 32 is the whole column. -/
theorem ColTo.full {f : Fin cfg0.N → F .f32} {n : ℕ} {v : Vec F S32x1 .f32} (hn : 32 ≤ n) (h : ColTo f n v) : v = col f :=
  funext fun y => h y (lt_of_lt_of_le (y 0).isLt hn)

/-! ## The invariant and the proof data -/

/-- The four carried buffers. -/
abbrev sc0 : Memref sig .tc .vmem S1x32 .f32 := Memref.whole cc0_scratch0
/-- The second scratch buffer, whole. -/
abbrev sc1 : Memref sig .tc .vmem S32x1 .f32 := Memref.whole cc0_scratch1
/-- The third scratch buffer, whole. -/
abbrev sc2 : Memref sig .tc .vmem S1x32 .f32 := Memref.whole cc0_scratch2
/-- The fourth scratch buffer, whole. -/
abbrev sc3 : Memref sig .tc .vmem S32x1 .f32 := Memref.whole cc0_scratch3

/-- The library's starting invariant: the four buffers at anything and the generator register at some state. -/
theorem start_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- Before point `n`: the four buffers at some contents whose first `n` places hold the first `n` batches' values. -/
def Inv (c : Dev nD) (n : ℕ) : sProp 𝕄 :=
  iprop((∃ pr, ∃ pc, ∃ lr, ∃ lc, ⌜RowTo (predAt m c) n pr ∧ ColTo (predAt m c) n pc ∧ RowTo (labelAt m c) n lr ∧ ColTo (labelAt m c) n lc⌝
      ∗ owns (c : Thread nD τ) sc0 fullShare pr ∗ owns (c : Thread nD τ) sc1 fullShare pc ∗ owns (c : Thread nD τ) sc2 fullShare lr ∗ owns (c : Thread nD τ) sc3 fullShare lc)
    ∗ (∃ r, prngReg c r))

/-- The loss the last point stores. -/
def lossAt (c : Dev nD) (t : Fin cfg0.N) : Vec F S1x1 .f32 :=
  lossOf (iblk m c 3 t) (iblk m c 4 t) (row (predAt m c)) (col (predAt m c)) (row (labelAt m c)) (col (labelAt m c))

/-- The run's proof data: the arrays as the region finds them; after the body at point `t` each input's buffer at its
    block and the output's at the loss; the invariant above; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => lossAt m c t
  Φ t := Inv m c t.val
  q _ := fullShare
  owed _ := 0

/-- The arrays of the proof data are the contents the region finds. -/
theorem A_eq (c : Dev nD) (w : Fin cfg0.W) : (dats m 0 c).A w = V m c (Pipeline.arrRef spec0 w) := by
  dsimp only [dats]

/-- A point leaves the first window at its block. -/
theorem after_0 (c : Dev nD) (t : Fin cfg0.N) : (dats m 0 c).after 0 t = iblk m c 0 t := by dsimp only [dats]
/-- A point leaves the second window at its block. -/
theorem after_1 (c : Dev nD) (t : Fin cfg0.N) : (dats m 0 c).after 1 t = iblk m c 1 t := by dsimp only [dats]
/-- A point leaves the third window at its block. -/
theorem after_2 (c : Dev nD) (t : Fin cfg0.N) : (dats m 0 c).after 2 t = iblk m c 2 t := by dsimp only [dats]
/-- A point leaves the fourth window at its block. -/
theorem after_3 (c : Dev nD) (t : Fin cfg0.N) : (dats m 0 c).after 3 t = iblk m c 3 t := by dsimp only [dats]
/-- A point leaves the fifth window at its block. -/
theorem after_4 (c : Dev nD) (t : Fin cfg0.N) : (dats m 0 c).after 4 t = iblk m c 4 t := by dsimp only [dats]
/-- A point leaves the sixth window at its block. -/
theorem after_5 (c : Dev nD) (t : Fin cfg0.N) : (dats m 0 c).after 5 t = iblk m c 5 t := by dsimp only [dats]
/-- A point leaves the loss so far in the result's window. -/
theorem after_6 (c : Dev nD) (t : Fin cfg0.N) : (dats m 0 c).after 6 t = lossAt m c t := by dsimp only [dats]

/-- A point finds the first window at its block. -/
theorem before_0 (c : Dev nD) (t : Fin cfg0.N) (d) : (dats m 0 c).before 0 t d = iblk m c 0 t :=
  before0_0_of m (dats m 0 c) (A_eq m c 0) (after_0 m c) t d
/-- A point finds the second window at its block. -/
theorem before_1 (c : Dev nD) (t : Fin cfg0.N) (d) : (dats m 0 c).before 1 t d = iblk m c 1 t :=
  before0_1_of m (dats m 0 c) (A_eq m c 1) (after_1 m c) t d
/-- A point finds the third window at its block. -/
theorem before_2 (c : Dev nD) (t : Fin cfg0.N) (d) : (dats m 0 c).before 2 t d = iblk m c 2 t :=
  before0_2_of m (dats m 0 c) (A_eq m c 2) (after_2 m c) t d
/-- A point finds the fourth window at its block. -/
theorem before_3 (c : Dev nD) (t : Fin cfg0.N) (d) : (dats m 0 c).before 3 t d = iblk m c 3 t :=
  before0_3_of m (dats m 0 c) (A_eq m c 3) (after_3 m c) t d
/-- A point finds the fifth window at its block. -/
theorem before_4 (c : Dev nD) (t : Fin cfg0.N) (d) : (dats m 0 c).before 4 t d = iblk m c 4 t :=
  before0_4_of m (dats m 0 c) (A_eq m c 4) (after_4 m c) t d
/-- A point finds the sixth window at its block. -/
theorem before_5 (c : Dev nD) (t : Fin cfg0.N) (d) : (dats m 0 c).before 5 t d = iblk m c 5 t :=
  before0_5_of m (dats m 0 c) (A_eq m c 5) (after_5 m c) t d

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- At a point that is not the last nothing is written back of the output. -/
theorem flush_mid (t : Fin cfg0.N) (h : ¬t.val = 31) : (cfg0.win 6).flush t = false := by
  have ht : t.val < 32 := Nat.lt_of_lt_of_eq t.isLt N_0
  rw [Bool.eq_false_iff]; intro e; have := (flush0_6 t).mp e; omega

/-- At a point that is not the last the output's buffer is left alone. -/
theorem idle_mid (t : Fin cfg0.N) (h : ¬t.val = 31) : cfg0.idle 6 (grid0.coords t) = true := by
  have e : ¬k0_cond1 (grid0.coords t) = 1#1 := fun e => h ((last_iff t).mp e)
  show (!(k0_cond1 (grid0.coords t) == 1#1)) = true
  simp [e]

/-- At the last point it is stored. -/
theorem live_last (t : Fin cfg0.N) (h : t.val = 31) : cfg0.idle 6 (grid0.coords t) = false := by
  have e : k0_cond1 (grid0.coords t) = 1#1 := (last_iff t).mpr h
  show (!(k0_cond1 (grid0.coords t) == 1#1)) = false
  simp [e]

set_option maxHeartbeats 3200000 in
/-- The body at any point: it finds the inputs' blocks and the four buffers known in their first `t` places, and leaves
    them known in their first `t + 1`; at the last point the output's buffer ends at the loss. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns (c : Thread nD τ) (st0_0 t) fullShare (iblk m c 0 t) from by
    unfold Dat.leavesExact; rw [show cfg0.idle 0 (cfg0.grid.coords t) = false from rfl, after_0]]
  rw [show (dats m 0 c).leavesExact 1 t = owns (c : Thread nD τ) (st0_1 t) fullShare (iblk m c 1 t) from by
    unfold Dat.leavesExact; rw [show cfg0.idle 1 (cfg0.grid.coords t) = false from rfl, after_1]]
  rw [show (dats m 0 c).leavesExact 2 t = owns (c : Thread nD τ) (st0_2 t) fullShare (iblk m c 2 t) from by
    unfold Dat.leavesExact; rw [show cfg0.idle 2 (cfg0.grid.coords t) = false from rfl, after_2]]
  rw [show (dats m 0 c).leavesExact 3 t = owns (c : Thread nD τ) (st0_3 t) fullShare (iblk m c 3 t) from by
    unfold Dat.leavesExact; rw [show cfg0.idle 3 (cfg0.grid.coords t) = false from rfl, after_3]]
  rw [show (dats m 0 c).leavesExact 4 t = owns (c : Thread nD τ) (st0_4 t) fullShare (iblk m c 4 t) from by
    unfold Dat.leavesExact; rw [show cfg0.idle 4 (cfg0.grid.coords t) = false from rfl, after_4]]
  rw [show (dats m 0 c).leavesExact 5 t = owns (c : Thread nD τ) (st0_5 t) fullShare (iblk m c 5 t) from by
    unfold Dat.leavesExact; rw [show cfg0.idle 5 (cfg0.grid.coords t) = false from rfl, after_5]]
  unfold Inv
  by_cases h : t.val = 31
  · rw [show (dats m 0 c).leavesExact 6 t = owns (c : Thread nD τ) (st0_6 t) fullShare (lossAt m c t) from by
      unfold Dat.leavesExact; rw [show cfg0.idle 6 (cfg0.grid.coords t) = false from live_last t h, after_6]]
    iintro ⟨⟨⟨%pr, %pc, %lr, %lc, %hk, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    obtain ⟨hpr, hpc, hlr, hlc⟩ := hk
    iapply (body_last c (grid0.coords t) _ _ _ _ _ _ _ _ _ _ _ _ _ _ _ _ _ _ _ _ _ _ ((last_iff t).mpr h) (iblk m c 0 t) (iblk m c 1 t) (iblk m c 2 t) (iblk m c 3 t) (iblk m c 4 t) (iblk m c 5 t) pr pc lr lc _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    have e0 := (hpr.add t).full (by omega)
    have e1 := (hpc.add t).full (by omega)
    have e2 := (hlr.add t).full (by omega)
    have e3 := (hlc.add t).full (by omega)
    isplitl [HS0 HS1 HS2 HS3 Hg]
    · isplitr [Hg]
      · iexists _; iexists _; iexists _; iexists _; isplitr
        · ipureintro; exact ⟨hpr.add t, hpc.add t, hlr.add t, hlc.add t⟩
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [show lossAt m c t = lossOf (iblk m c 3 t) (iblk m c 4 t) (addRow (grid0.coords t) (predOf (iblk m c 0 t) (iblk m c 1 t) (iblk m c 5 t)) pr) (addCol (grid0.coords t) (predOf (iblk m c 0 t) (iblk m c 1 t) (iblk m c 5 t)) pc)
        (addRow (grid0.coords t) (labelOf (iblk m c 2 t) (iblk m c 5 t)) lr) (addCol (grid0.coords t) (labelOf (iblk m c 2 t) (iblk m c 5 t)) lc) from by
      unfold lossAt; rw [← e0, ← e1, ← e2, ← e3]; rfl]
    iexact H6
  · rw [show (dats m 0 c).leavesExact 6 t = iprop(∃ d, owns (c : Thread nD τ) (st0_6 t) fullShare ((dats m 0 c).before 6 t d)) from
      (dats m 0 c).leavesExact_idle 6 t (idle_mid t h) (flush_mid t h)]
    iintro ⟨⟨⟨%pr, %pc, %lr, %lc, %hk, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    obtain ⟨hpr, hpc, hlr, hlc⟩ := hk
    iapply (body_mid c (grid0.coords t) _ _ _ _ _ _ _ _ _ _ _ _ _ _ _ _ _ _ _ _ _ _ (fun e => h ((last_iff t).mp e)) ((dats m 0 c).before 6 t d6) (iblk m c 0 t) (iblk m c 1 t) (iblk m c 2 t) (iblk m c 3 t) (iblk m c 4 t) (iblk m c 5 t) pr pc lr lc _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitr [Hg]
      · iexists _; iexists _; iexists _; iexists _; isplitr
        · ipureintro; exact ⟨hpr.add t, hpc.add t, hlr.add t, hlc.add t⟩
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The body table's row at point `t` is the body as called there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem start_inv (c : Dev nD) : Pipeline.ΦA spec0 c ⊢ (dats m 0 c).Φ 0 := by
  rw [show (dats m 0 c).Φ 0 = Inv m c 0 from rfl, start_eq]
  unfold Inv
  iintro ⟨⟨⟨%d0, H0⟩, ⟨%d1, H1⟩, ⟨%d2, H2⟩, ⟨%d3, H3⟩⟩, Hg⟩
  isplitr [Hg]
  · iexists d0; iexists d1; iexists d2; iexists d3; isplitr
    · ipureintro
      exact ⟨fun _ h => absurd h (Nat.not_lt_zero _), fun _ h => absurd h (Nat.not_lt_zero _),
        fun _ h => absurd h (Nat.not_lt_zero _), fun _ h => absurd h (Nat.not_lt_zero _)⟩
    isplitl [H0]; · iexact H0
    isplitl [H1]; · iexact H1
    isplitl [H2]; · iexact H2
    iexact H3
  iexact Hg

/-- After the last point the invariant gives the four buffers back at some contents. -/
theorem inv_end (c : Dev nD) : (dats m 0 c).Φ (Fin.last cfg0.N) ⊢ Pipeline.ΦA spec0 c := by
  rw [show (dats m 0 c).Φ (Fin.last cfg0.N) = Inv m c (Fin.last cfg0.N).val from rfl, start_eq]
  unfold Inv
  iintro ⟨⟨%pr, %pc, %lr, %lc, %hk, H0, H1, H2, H3⟩, Hg⟩
  isplitr [Hg]
  · isplitl [H0]; · iexists _; iexact H0
    isplitl [H1]; · iexists _; iexact H1
    isplitl [H2]; · iexists _; iexact H2
    iexists _; iexact H3
  iexact Hg

/-! ## The run and the frame -/

set_option backward.isDefEq.respectTransparency.types false in
set_option maxHeartbeats 800000 in
/-- The launch, from any memory with zero counters: every weakly fair execution terminates, the arrays end at the proof
    data's final contents, the other buffers at the later host line's, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := start_inv m) (hout := inv_end m)

/-- The launch without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Region

end
-- ==== Proof.IdealFrame.lean ====
/- What the idealized kernel's run leaves: its arguments unchanged, its counters at zero, and its result at the loss. -/
module

public import proofs.«01_k».proof.Proof.IdealRegion
public import Idealize.ShloMosaic.Lib.Claim
public import Idealize.ShloMosaic.Lib.Pipeline.Value

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

variable (m : (ℓ : Loc nD τ sig) → Buf (Elt F) ℓ) (ρ : Dev nD → PrngReg)

/-- Every weakly fair execution terminates with the argument arrays as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every weakly fair execution terminates with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The last point. -/
abbrev lastPt : Fin cfg0.N := pt 31 (by decide)

/-- The output array has one entry. -/
theorem only (a b : S1x1.Idx) : a = b := by
  funext d; fin_cases d
  · have h1 : (a 0).val < 1 := (a 0).isLt
    have h2 : (b 0).val < 1 := (b 0).isLt
    exact Fin.ext (by show (a 0).val = (b 0).val; omega)
  · have h1 : (a 1).val < 1 := (a 1).isLt
    have h2 : (b 1).val < 1 := (b 1).isLt
    exact Fin.ext (by show (a 1).val = (b 1).val; omega)

/-- The output array ends at the loss of the 32 batches. -/
theorem arrAt_out (c : Dev nD) : (dats m 0 c).arrAt 6 cfg0.N = lossAt m c lastPt := by
  refine (dats m 0 c).arrAt_eq_of_cover (6 : Fin cfg0.W) (lossAt m c lastPt) ?_ ?_
  · intro t hf
    have ht : t.val < 32 := Nat.lt_of_lt_of_eq t.isLt N_0
    have h31 := (flush0_6 t).mp hf
    obtain rfl : t = lastPt := Fin.ext (by show t.val = 31; omega)
    funext y
    exact congrArg (lossAt m c lastPt) (only y (((cfg0.win 6).blk lastPt).view.emb y))
  · intro i
    have hf : (cfg0.win 6).flush lastPt = true := (flush0_6 _).mpr rfl
    refine ⟨lastPt, hf, ?_⟩
    have hi : ((cfg0.win 6).blk lastPt).view.emb i = i := only _ _
    rw [← hi]
    exact View.emb_mem_set _ _

/-- The program's result: the loss as a scalar. -/
def out (c : Dev nD) : Buf (Elt F) ((c.tc : Thread nD τ).loc main_v5) :=
  shapeCast S_ (lossAt m c lastPt) shapeCasts_S1x1_S_

/-- After the last host lines the result buffer holds `out`. -/
theorem tail_out (c : Dev nD) : Pipeline.afterTail₀ cfgs (dats m) 0 (V0 m) [hostOps1] c main_v5 = out m c := by
  unfold Pipeline.afterTail₀
  simp only [hostOps1, List.flatten_cons, List.flatten_nil, List.append_nil]
  after_results_simp
  have e := Pipeline.withArrays_arr spec0 launch0.win.arr_inj c (V0 m c) (fun w : Fin cfg0.W => (dats m 0 c).arrAt w cfg0.N) 6
  exact congrArg (fun x => shapeCast S_ x shapeCasts_S1x1_S_) (e.trans (arrAt_out m c))

/-- Every weakly fair execution terminates with the result at the loss of the 32 batches and the arguments as launched. -/
theorem run_value : θ_run defs (onTc (τ := τ) (main (F := F))) ⟨m, fun _ => 0, ρ⟩ (fun r => ∀ c : Dev nD,
      r.2.mem ((c.tc : Thread nD τ).loc main_v5) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).2 main_v5 (Pipeline.mem_restRefs_of main_v5 (by decide) (by decide))).trans (tail_out m c), h.1 c⟩)
    (θ_run_and (unchanged m ρ) (run_main m ρ))

end Cert.KernelIdeal.Region

end
-- ==== Proof.Reduce.lean ====
/- The three reductions of a column of 64 entries the kernel takes — greatest value, least signed word, sum — read
   as what they are of the column's entries. -/
module

public import proofs.«01_k».proof.Proof.IdealFrame
public import Idealize.ShloMosaic.Lib.Pointwise

@[expose] public section

set_option maxRecDepth 16384

noncomputable section

namespace Cert.KernelIdeal.Region

open Idealize.ShloMosaic
open Cert.KernelIdeal.Gen

/-- The greatest entry of a column, as the kernel takes it. -/
def topOf (v : FVec Ideal S64x1 .f32) : Ideal .f32 :=
  extractAt ![0, 0, 0] (shapeCast S1x1x1 (multiReduction .maximumf [1, 2] S1 (shapeCast S1x64x1 v shapeCasts_S64x1_S1x64x1)
    0xFF800000#32 reduces_S1x64x1_S1 (.inl rfl) rfl) shapeCasts_S1_S1x1x1) inpos_S1x1x1_p0_0_0

/-- The least signed word of a column, as the kernel takes it. -/
def leastOf (v : IVec S64x1 32) : BitVec 32 :=
  extractAt ![0, 0, 0] (shapeCast S1x1x1 (multiReductionI .minsi [1, 2] S1 (shapeCast S1x64x1 v shapeCasts_S64x1_S1x64x1)
    2147483647#32 reduces_S1x64x1_S1 rfl) shapeCasts_S1_S1x1x1) inpos_S1x1x1_p0_0_0

/-- The sum of a column, as the kernel takes it. -/
def totalOf (v : FVec Ideal S64x1 .f32) : Ideal .f32 :=
  extractAt ![0, 0, 0] (shapeCast S1x1x1 (multiReduction .add [1, 2] S1 (shapeCast S1x64x1 v shapeCasts_S64x1_S1x64x1)
    0x00000000#32 reduces_S1x64x1_S1 (.inl rfl) rfl) shapeCasts_S1_S1x1x1) inpos_S1x1x1_p0_0_0

/-- The word `0xFF800000` names −∞. -/
theorem ofBits_neg_inf : Ideal.ofBits .f32 0xFF800000#32 = ⊥ := by
  simp [Ideal.ofBits, Ideal.ieee]

/-- A word is at most the lesser of two exactly when it is at most both, signed. -/
theorem le_minsi {a b c : BitVec 32} : a.toInt ≤ (IntOp.minsi b c).toInt ↔ a.toInt ≤ b.toInt ∧ a.toInt ≤ c.toInt := by
  unfold IntOp.minsi
  rw [BitVec.slt_eq_decide]
  by_cases hbc : b.toInt < c.toInt <;> simp [hbc] <;> omega

/-- The greatest entry is any entry no other exceeds. -/
theorem topOf_eq (v : FVec Ideal S64x1 .f32) (p : Fin 64) (h : ∀ l : Fin 64, (v (ix2 l 0) : EReal) ≤ v (ix2 p 0)) :
    topOf v = v (ix2 p 0) := by
  unfold topOf
  pointwise
  rw [ofBits_neg_inf]
  apply le_antisymm
  · exact (Finset.fold_max_le _).2 ⟨bot_le, fun x _ => h x.1⟩
  · exact (Finset.le_fold_max _).2 (.inr ⟨(p, 0), Finset.mem_univ _, le_rfl⟩)

/-- The least word is any entry that no other is below. -/
theorem leastOf_eq (v : IVec S64x1 32) (p : Fin 64) (h : ∀ l : Fin 64, (v (ix2 p 0)).toInt ≤ (v (ix2 l 0)).toInt) :
    leastOf v = v (ix2 p 0) := by
  unfold leastOf
  pointwise
  have key := fun c : BitVec 32 => Finset.fold_op_rel_iff_and (op := IntOp.minsi (w := 32))
    (r := fun a b : BitVec 32 => a.toInt ≤ b.toInt) le_minsi
    (f := fun x : Fin 64 × Fin 1 => v (ix2 x.1 0)) (b := 2147483647#32) (s := Finset.univ) (c := c)
  apply BitVec.eq_of_toInt_eq
  apply le_antisymm
  · exact ((key _).1 le_rfl).2 (p, 0) (Finset.mem_univ _)
  · exact (key _).2 ⟨by have := BitVec.toInt_le (x := v (ix2 p 0)); simpa using this, fun x _ => h x.1⟩

/-- The sum is the sum of the entries. -/
theorem totalOf_eq (v : FVec Ideal S64x1 .f32) : totalOf v = ∑ l : Fin 64, (v (ix2 l 0) : EReal) := by
  unfold totalOf
  pointwise
  simp

end Cert.KernelIdeal.Region
-- ==== Proof.Order.lean ====
/- The order in which a column of 64 scores is picked: greatest first, equal scores by position. The stable sort by
   "greater" alone gives this order. -/
module

public import proofs.«01_k».proof.Proof.Reduce
public import Idealize.ShloMosaic.Lib.SortPrefix
public import Idealize.ShloMosaic.Lib.SortFacts

@[expose] public section

noncomputable section

namespace Cert.Order

open Idealize.ShloMosaic

/-- A stable sort of an increasing list asks its relation only whether a later element goes before an earlier one. -/
theorem stableSort_later {n : Nat} (R R' : Fin n → Fin n → Bool) (h : ∀ a b, a < b → R b a = R' b a) :
    ∀ l : List (Fin n), l.Pairwise (· < ·) → stableSort R l = stableSort R' l := by
  intro l
  induction l with
  | nil => intro _; rfl
  | cons a l ih =>
    intro hl
    rw [List.pairwise_cons] at hl
    unfold stableSort
    rw [ih hl.2]
    exact insertBefore_congr R R' a _ fun b hb => h a b (hl.1 b ((perm_stableSort R' l).mem_iff.mp hb))

/-- The same of a stable sort of all positions. -/
theorem sortedFrom_later {n : Nat} (R R' : Fin n → Fin n → Bool) (h : ∀ a b, a < b → R b a = R' b a) :
    sortedFrom R = sortedFrom R' := by
  funext k
  unfold sortedFrom
  rw [List.get_of_eq (show sortPositions n R = sortPositions n R' from
    stableSort_later R R' h _ (List.pairwise_lt_finRange n))]
  rfl

/-- Position `k` goes before position `k'`: its score is greater, or the scores are equal and it comes first. -/
def goesBefore (col : Fin 64 → EReal) (k k' : Fin 64) : Bool :=
  decide (col k' < col k) || (decide (col k = col k') && decide (k < k'))

/-- `goesBefore` is a strict total order of the positions. -/
theorem goesBefore_strict (col : Fin 64 → EReal) : StrictTotalBefore (goesBefore col) :=
  StrictTotalBefore.of_key_then_position (fun a b : EReal => decide (b < a)) col
    (by simp) (by simp only [decide_eq_true_eq]; exact fun a b c h h' => h'.trans h)
    (by
      intro a b
      simp only [decide_eq_true_eq]
      rcases lt_trichotomy a b with h | h | h
      · exact .inr (.inr h)
      · exact .inr (.inl h)
      · exact .inl h)

/-- The position picked at rank `r`: the stable sort of the positions, greater score first. -/
def rank (col : Fin 64 → EReal) : Fin 64 → Fin 64 := sortedFrom fun k k' => decide (col k' < col k)

/-- `rank` is the sort by `goesBefore`. -/
theorem rank_eq (col : Fin 64 → EReal) : rank col = sortedFrom (goesBefore col) :=
  sortedFrom_later _ _ fun a b hab => by simp [goesBefore, not_lt.2 hab.le]

/-- No position stands at two ranks. -/
theorem rank_injective (col : Fin 64 → EReal) : Function.Injective (rank col) := sortedFrom_injective _

/-- Every position has a rank. -/
theorem rank_surjective (col : Fin 64 → EReal) : Function.Surjective (rank col) := sortedFrom_surjective _

/-- A position of a lower rank goes before one of a higher rank. -/
theorem rank_before (col : Fin 64 → EReal) {i j : Fin 64} (hij : i < j) :
    goesBefore col (rank col i) (rank col j) = true := by
  have hB := goesBefore_strict col
  have hn : rank col i ≠ rank col j := fun e => hij.ne (rank_injective col e)
  have := sortedFrom_noInversion (goesBefore col) (goesBefore col) (fun a b h => hB.asymm a b h) (fun _ _ h => h)
    hB.negTrans i j hij
  rw [← rank_eq] at this
  rcases hB.total _ _ hn with h | h
  · exact h
  · rw [h] at this; exact absurd this (by decide)

/-- No position of a higher rank has a greater score. -/
theorem rank_le (col : Fin 64 → EReal) {i j : Fin 64} (hij : i ≤ j) : col (rank col j) ≤ col (rank col i) := by
  rcases hij.eq_or_lt with rfl | h
  · exact le_rfl
  · have := rank_before col h
    simp only [goesBefore, Bool.or_eq_true, Bool.and_eq_true, decide_eq_true_eq] at this
    rcases this with h | h
    · exact h.le
    · exact h.1.ge

/-- Of two ranks whose positions have equal scores the higher one's position comes later. -/
theorem rank_tie (col : Fin 64 → EReal) {i j : Fin 64} (hij : i ≤ j) (h : col (rank col j) = col (rank col i)) :
    rank col i ≤ rank col j := by
  rcases hij.eq_or_lt with rfl | hlt
  · exact le_rfl
  · have := rank_before col hlt
    simp only [goesBefore, Bool.or_eq_true, Bool.and_eq_true, decide_eq_true_eq] at this
    rcases this with h' | h'
    · exact absurd h h'.ne
    · exact h'.2.le

end Cert.Order
-- ==== Proof.Round.lean ====
/- One picking round of the kernel: of the positions still available, the first that holds the greatest score. Five
   rounds pick the five first positions in the order of scores. -/
module

public import proofs.«01_k».proof.Proof.Order

@[expose] public section

set_option maxRecDepth 16384

noncomputable section

namespace Cert.KernelIdeal.Region

open Idealize.ShloMosaic Cert.Order
open Cert.KernelIdeal.Gen

/-- The scores, −∞ at the positions no longer available. -/
def openScores (col : FVec Ideal S64x1 .f32) (av : IVec S64x1 1) : FVec Ideal S64x1 .f32 :=
  select av col (broadcast S64x1 (Scalar.ofBits .f32 0xFF800000#32))

/-- The positions that hold the greatest open score, 64 at every other. -/
def candidates (col : FVec Ideal S64x1 .f32) (av : IVec S64x1 1) : IVec S64x1 32 :=
  select (andi (cmpf .oeq (openScores col av) (broadcast S64x1 (topOf (openScores col av)))) av) pos (broadcast S64x1 64#32)

/-- The mask of the picked position. -/
def hit (col : FVec Ideal S64x1 .f32) (av : IVec S64x1 1) : IVec S64x1 1 :=
  cmpi .eq pos (broadcast S64x1 (leastOf (candidates col av)))

/-- The available positions less the picked one. -/
def left (col : FVec Ideal S64x1 .f32) (av : IVec S64x1 1) : IVec S64x1 1 :=
  andi av (xori (hit col av) (constantI S64x1 1 1#1))

/-- The logit at the picked position, as a sum over the column. -/
def gain (col lg : FVec Ideal S64x1 .f32) (av : IVec S64x1 1) : Ideal .f32 :=
  totalOf (select (hit col av) lg (broadcast S64x1 (Scalar.ofBits .f32 0x00000000#32)))

/-- All positions, as the first round finds them. -/
def allOpen : IVec S64x1 1 := cmpi .slt pos (broadcast S64x1 64#32)

/-- The batch's prediction: the five rounds' gains added up, over the number of counted positions. -/
theorem predOf_eq (x0 : Vec Ideal S64x32000 .f32) (x1 : Vec Ideal S1x64x1 .f32) (x5 : Vec Ideal S1x64x1 .i32) :
    predOf x0 x1 x5 =
      let col := k0_pay10 x0 x5
      let lg := k0_pay11 x5 x1
      let a1 := left col allOpen
      let a2 := left col a1
      let a3 := left col a2
      let a4 := left col a3
      Scalar.divf (Scalar.addf (Scalar.addf (Scalar.addf (Scalar.addf (Scalar.addf (Scalar.ofBits .f32 0x00000000#32)
        (gain col lg allOpen)) (gain col lg a1)) (gain col lg a2)) (gain col lg a3)) (gain col lg a4)) (k0_pay9 x5) := rfl

/-- Position `l` as a word. -/
theorem pos_apply (l : Fin 64) : pos (ix2 l 0) = BitVec.ofNat 32 l.val := by
  pointwise

/-- A round picks `p` when `p` is available, no available score exceeds its own and no earlier one equals it. -/
theorem hit_apply (col : FVec Ideal S64x1 .f32) (av : IVec S64x1 1) (p : Fin 64) (hp : av (ix2 p 0) = 1#1)
    (hle : ∀ l : Fin 64, av (ix2 l 0) = 1#1 → (col (ix2 l 0) : EReal) ≤ col (ix2 p 0))
    (htie : ∀ l : Fin 64, av (ix2 l 0) = 1#1 → (col (ix2 l 0) : EReal) = col (ix2 p 0) → p ≤ l) (l : Fin 64) :
    hit col av (ix2 l 0) = BitVec.ofBool (decide (l = p)) := by
  have hopen : ∀ l : Fin 64, openScores col av (ix2 l 0) = if av (ix2 l 0) = 1#1 then (col (ix2 l 0) : EReal) else ⊥ := by
    intro l
    rw [← ofBits_neg_inf]; rfl
  have htop : topOf (openScores col av) = col (ix2 p 0) := by
    rw [topOf_eq _ p, hopen, if_pos hp]
    intro l
    rw [hopen, hopen, if_pos hp]
    split
    · exact hle l ‹_›
    · exact bot_le
  have hcand : ∀ l : Fin 64, candidates col av (ix2 l 0)
      = if av (ix2 l 0) = 1#1 ∧ (col (ix2 l 0) : EReal) = col (ix2 p 0) then BitVec.ofNat 32 l.val else 64#32 := by
    intro l
    unfold candidates
    rw [ValueIdx.select_apply, andi_apply, ValueIdx.cmpf_apply, ValueIdx.broadcast_apply, ValueIdx.broadcast_apply, htop,
      hopen, pos_apply, Ideal.cmpf_def]
    unfold Scalar.select
    by_cases h1 : av (ix2 l 0) = 1#1
    · simp only [h1, if_true, true_and]
      by_cases h2 : (col (ix2 l 0) : EReal) = col (ix2 p 0) <;> simp [Ideal.cmp, h2, IntOp.andi]
    · have h0 : av (ix2 l 0) = 0#1 := by
        rcases BitVec.eq_zero_or_eq_one (av (ix2 l 0)) with h | h
        · exact h
        · exact absurd h h1
      simp [h0, IntOp.andi]
  have hsmall : ∀ n : Nat, n ≤ 64 → (BitVec.ofNat 32 n).toInt = n := by
    intro n hn
    rw [BitVec.toInt_eq_toNat_of_lt] <;> simp only [BitVec.toNat_ofNat] <;> omega
  have hleast : leastOf (candidates col av) = BitVec.ofNat 32 p.val := by
    rw [leastOf_eq _ p, hcand, if_pos ⟨hp, rfl⟩]
    intro l
    rw [hcand, hcand, if_pos ⟨hp, rfl⟩]
    split
    · rename_i h
      rw [hsmall _ (by omega), hsmall _ (by omega)]
      exact_mod_cast htie l h.1 h.2
    · rw [hsmall _ (by omega), hsmall 64 (by omega)]
      exact_mod_cast (by omega : p.val ≤ 64)
  unfold hit
  rw [cmpi_apply, ValueIdx.broadcast_apply, hleast, pos_apply]
  have : (BitVec.ofNat 32 l.val = BitVec.ofNat 32 p.val) ↔ l = p := by
    constructor
    · intro h
      have h' := congrArg BitVec.toInt h
      rw [hsmall _ (by omega), hsmall _ (by omega)] at h'
      exact Fin.ext (by exact_mod_cast h')
    · rintro rfl; rfl
  simp only [IntOp.cmpi, beq_eq_decide, this]

/-- The column of scores as a function of the position. -/
abbrev scoreAt (col : FVec Ideal S64x1 .f32) (l : Fin 64) : EReal := col (ix2 l 0)

/-- The available positions are those of rank `r` and above. -/
def OpenFrom (col : FVec Ideal S64x1 .f32) (av : IVec S64x1 1) (r : Nat) : Prop :=
  ∀ j : Fin 64, av (ix2 (rank (scoreAt col) j) 0) = BitVec.ofBool (decide (r ≤ j.val))

/-- At the start every position is available. -/
theorem openFrom_allOpen (col : FVec Ideal S64x1 .f32) : OpenFrom col allOpen 0 := by
  intro j
  unfold allOpen
  rw [cmpi_apply, ValueIdx.broadcast_apply, pos_apply]
  generalize rank (scoreAt col) j = q
  rw [show decide (0 ≤ j.val) = true by simp]
  revert q
  decide

/-- The round that finds the ranks from `r` on open picks rank `r`. -/
theorem hit_rank (col : FVec Ideal S64x1 .f32) (av : IVec S64x1 1) (r : Fin 64) (h : OpenFrom col av r.val) (l : Fin 64) :
    hit col av (ix2 l 0) = BitVec.ofBool (decide (l = rank (scoreAt col) r)) := by
  refine hit_apply col av _ (by rw [h]; simp) ?_ ?_ l
  · intro l hl
    obtain ⟨j, rfl⟩ := rank_surjective (scoreAt col) l
    rw [h] at hl
    exact rank_le (scoreAt col) (i := r) (j := j) (by by_contra hc; simp [show ¬ r.val ≤ j.val from hc] at hl)
  · intro l hl he
    obtain ⟨j, rfl⟩ := rank_surjective (scoreAt col) l
    rw [h] at hl
    exact rank_tie (scoreAt col) (i := r) (j := j) (by by_contra hc; simp [show ¬ r.val ≤ j.val from hc] at hl) he

/-- After the round the ranks from `r + 1` on are open. -/
theorem openFrom_left (col : FVec Ideal S64x1 .f32) (av : IVec S64x1 1) (r : Fin 64) (h : OpenFrom col av r.val) :
    OpenFrom col (left col av) (r.val + 1) := by
  intro j
  unfold left
  rw [andi_apply, xori_apply, constantI_apply, h, hit_rank col av r h]
  simp only [(rank_injective (scoreAt col)).eq_iff, Fin.ext_iff]
  rcases lt_trichotomy r.val j.val with h' | h' | h'
  · have h1 : r.val ≤ j.val := by omega
    have h2 : r.val + 1 ≤ j.val := by omega
    have h3 : j.val ≠ r.val := by omega
    simp [h1, h2, h3, IntOp.andi, IntOp.xori]
  · have h1 : r.val ≤ j.val := by omega
    have h2 : ¬ r.val + 1 ≤ j.val := by omega
    have h3 : j.val = r.val := by omega
    simp [h3, IntOp.andi, IntOp.xori]
  · have h1 : ¬ r.val ≤ j.val := by omega
    have h2 : ¬ r.val + 1 ≤ j.val := by omega
    simp [h1, h2, IntOp.andi]

/-- The round's gain is the logit at rank `r`. -/
theorem gain_rank (col lg : FVec Ideal S64x1 .f32) (av : IVec S64x1 1) (r : Fin 64) (h : OpenFrom col av r.val) :
    gain col lg av = lg (ix2 (rank (scoreAt col) r) 0) := by
  unfold gain
  rw [totalOf_eq]
  have : ∀ l : Fin 64, select (hit col av) lg (broadcast S64x1 (Scalar.ofBits (F := Ideal) .f32 0x00000000#32)) (ix2 l 0)
      = if l = rank (scoreAt col) r then (lg (ix2 l 0) : EReal) else 0 := by
    intro l
    rw [ValueIdx.select_apply, ValueIdx.broadcast_apply, hit_rank col av r h]
    unfold Scalar.select
    show (if _ then _ else Ideal.ofBits .f32 0x00000000#32) = _
    by_cases hl : l = rank (scoreAt col) r
    · simp [hl]
    · simp [hl, Ideal.ofBits, Ideal.ieee]
  simp only [this]
  rw [Finset.sum_ite_eq' Finset.univ]
  simp

/-- The batch's prediction: the logits at the five first ranks, added up, over the number of counted positions. -/
theorem predOf_rank (x0 : Vec Ideal S64x32000 .f32) (x1 : Vec Ideal S1x64x1 .f32) (x5 : Vec Ideal S1x64x1 .i32) :
    predOf x0 x1 x5 = Ideal.div (∑ r : Fin 5, (k0_pay11 x5 x1 (ix2 (rank (scoreAt (k0_pay10 x0 x5)) (r.castLE (by decide))) 0) : EReal))
      (k0_pay9 x5) := by
  rw [predOf_eq]
  generalize k0_pay10 x0 x5 = col
  generalize k0_pay11 x5 x1 = lg
  have h0 := openFrom_allOpen col
  have h1 := openFrom_left col _ 0 h0
  have h2 := openFrom_left col _ 1 h1
  have h3 := openFrom_left col _ 2 h2
  have h4 := openFrom_left col _ 3 h3
  show Ideal.div (((((Ideal.ofBits .f32 0x00000000#32 + gain col lg _ : EReal) + gain col lg _ : EReal) + gain col lg _ : EReal)
    + gain col lg _ : EReal) + gain col lg _) _ = _
  rw [gain_rank col lg _ 0 h0, gain_rank col lg _ 1 h1, gain_rank col lg _ 2 h2, gain_rank col lg _ 3 h3,
    gain_rank col lg _ 4 h4]
  congr 1
  simp only [Fin.sum_univ_succ, Fin.sum_univ_zero]
  have hz : (Ideal.ofBits .f32 0x00000000#32 : EReal) = 0 := by simp [Ideal.ofBits, Ideal.ieee]
  rw [hz, zero_add, add_zero]
  simp only [add_assoc]
  rfl

end Cert.KernelIdeal.Region
-- ==== Proof.Spec.lean ====
/- What one batch contributes, in plain mathematics over the extended reals: which positions count, the score each is
   ranked by, the prediction and the label. -/
module

public import proofs.«01_k».proof.Proof.Round

@[expose] public section

noncomputable section

namespace Cert.Spec

open Idealize.ShloMosaic Cert.Order

/-- A position counts when no earlier position holds the end token 2. -/
def Counted (tok : Fin 64 → BitVec 32) (l : Fin 64) : Prop := ∀ l' : Fin 64, l' < l → tok l' ≠ 2#32

/-- Whether a position counts can be decided. -/
instance (tok : Fin 64 → BitVec 32) : DecidablePred (Counted tok) := fun l => by unfold Counted; infer_instance

/-- One at a counted position, zero at any other. -/
def weight (tok : Fin 64 → BitVec 32) (l : Fin 64) : EReal := if Counted tok l then 1 else 0

/-- The greatest entry of a row. -/
def top (x : Fin 32000 → EReal) : EReal := Finset.univ.fold max ⊥ x

/-- The sum of the exponentials of a row, its greatest entry taken off first. -/
def mass (x : Fin 32000 → EReal) : EReal := ∑ k, Ideal.exp (x k - top x)

/-- A zero score stands for −∞. -/
def drop0 (x : EReal) : EReal := if x = 0 then ⊥ else x

/-- The score of a position: minus the logarithm of its row's mass, −∞ where that is zero or the position does not
    count. -/
def score (g : Fin 64 → Fin 32000 → EReal) (tok : Fin 64 → BitVec 32) (l : Fin 64) : EReal :=
  drop0 (if Counted tok l then 0 - Ideal.log (mass (g l)) else ⊥)

/-- The prediction: the counted logits at the five greatest scores, added up, over the number of counted positions. -/
def pred (g : Fin 64 → Fin 32000 → EReal) (u : Fin 64 → EReal) (tok : Fin 64 → BitVec 32) : EReal :=
  Ideal.div (∑ r : Fin 5, u (rank (score g tok) (r.castLE (by decide))) * weight tok (rank (score g tok) (r.castLE (by decide))))
    (∑ l, weight tok l)

/-- The label: the mean of the counted targets over all 64 positions. -/
def label (u : Fin 64 → EReal) (tok : Fin 64 → BitVec 32) : EReal :=
  Ideal.div (∑ l, u l * weight tok l) (Ideal.ofBits .f32 0x42800000#32)

end Cert.Spec
-- ==== Proof.KernelRow.lean ====
/- What one block of the kernel computes: its mask, scores, prediction and label are those of the plain mathematics. -/
module

public import proofs.«01_k».proof.Proof.Spec

@[expose] public section

set_option maxRecDepth 16384

noncomputable section

namespace Cert.KernelIdeal.Region

open Idealize.ShloMosaic Cert.Order Cert.Spec
open Cert.KernelIdeal.Gen

/-- The tokens of a block by position. -/
abbrev tokAt (x5 : Vec Ideal S1x64x1 .i32) (l : Fin 64) : BitVec 32 := x5 (ix3 0 l 0)

/-- A word below the largest is at most the least of a column exactly when it is at most every entry. -/
theorem le_leastOf (v : IVec S64x1 32) (c : BitVec 32) :
    c.toInt ≤ (leastOf v).toInt ↔ ∀ l : Fin 64, c.toInt ≤ (v (ix2 l 0)).toInt := by
  unfold leastOf
  pointwise
  rw [Finset.fold_op_rel_iff_and (op := IntOp.minsi (w := 32)) (r := fun a b : BitVec 32 => a.toInt ≤ b.toInt) le_minsi]
  constructor
  · exact fun h l => h.2 (l, 0) (Finset.mem_univ _)
  · exact fun h => ⟨by have := BitVec.toInt_le (x := c); simpa using this, fun x _ => h x.1⟩

/-- A small natural as a word. -/
theorem toInt_small (n : Nat) (hn : n ≤ 64) : (BitVec.ofNat 32 n).toInt = n := by
  rw [BitVec.toInt_eq_toNat_of_lt] <;> simp only [BitVec.toNat_ofNat] <;> omega

/-- The kernel's mask is one exactly at the counted positions. -/
theorem mask_apply (x5 : Vec Ideal S1x64x1 .i32) (l : Fin 64) :
    k0_pay7 (F := Ideal) x5 (ix2 l 0) = BitVec.ofBool (decide (Counted (tokAt x5) l)) := by
  have hpay : k0_pay7 (F := Ideal) x5 = cmpi .sle pos (broadcast S64x1 (leastOf (select (cmpi .eq
    (shapeCast S64x1 x5 shapeCasts_S1x64x1_S64x1) (broadcast S64x1 2#32)) pos (broadcast S64x1 64#32)))) := rfl
  rw [hpay, cmpi_apply, ValueIdx.broadcast_apply, pos_apply]
  simp only [IntOp.cmpi, BitVec.sle_eq_decide]
  congr 1
  rw [decide_eq_decide, le_leastOf]
  have hv : ∀ l' : Fin 64, (select (cmpi .eq (shapeCast S64x1 x5 shapeCasts_S1x64x1_S64x1) (broadcast S64x1 2#32)) pos
      (broadcast S64x1 64#32) (ix2 l' 0) : BitVec 32) = if tokAt x5 l' = 2#32 then BitVec.ofNat 32 l'.val else 64#32 := by
    intro l'
    rw [ValueIdx.select_apply, cmpi_apply, ValueIdx.broadcast_apply, ValueIdx.broadcast_apply, pos_apply]
    have hc : shapeCast S64x1 x5 shapeCasts_S1x64x1_S64x1 (ix2 l' 0) = x5 (ix3 0 l' 0) := by pointwise
    rw [hc]
    unfold Scalar.select
    have hw : ∀ w a b : BitVec 32, (if IntOp.cmpi .eq w 2#32 = 1#1 then a else b) = if w = 2#32 then a else b := by
      intro w a b
      by_cases h : w = 2#32
      · simp [IntOp.cmpi, h]
      · have hb : (w == 2#32) = false := by simpa using h
        simp [IntOp.cmpi, h, hb]
    exact hw _ _ _
  simp only [hv]
  constructor
  · intro h l' hl he
    have := h l'
    rw [if_pos he, toInt_small _ (by omega), toInt_small _ (by omega)] at this
    omega
  · intro h l'
    split
    · rename_i he
      rw [toInt_small _ (by omega), toInt_small _ (by omega)]
      by_contra hc
      exact h l' (by omega) he
    · rw [toInt_small _ (by omega), toInt_small 64 (by omega)]
      omega

/-- The kernel's mask as a number. -/
theorem weight_apply (x5 : Vec Ideal S1x64x1 .i32) (l : Fin 64) : k0_pay8 (F := Ideal) x5 (ix2 l 0) = weight (tokAt x5) l := by
  have : k0_pay8 (F := Ideal) x5 (ix2 l 0) = ((((k0_pay7 (F := Ideal) x5 (ix2 l 0)).setWidth 32).toInt : ℝ) : EReal) := rfl
  rw [this, mask_apply]
  unfold weight
  by_cases h : Counted (tokAt x5) l <;> simp [h]

/-- The number of counted positions. -/
theorem count_eq (x5 : Vec Ideal S1x64x1 .i32) : k0_pay9 (F := Ideal) x5 = ∑ l, weight (tokAt x5) l := by
  have : k0_pay9 (F := Ideal) x5 = totalOf (k0_pay8 x5) := rfl
  rw [this, totalOf_eq]
  simp only [weight_apply]

/-- The counted logits. -/
theorem logit_apply (x5 : Vec Ideal S1x64x1 .i32) (x1 : Vec Ideal S1x64x1 .f32) (l : Fin 64) :
    k0_pay11 (F := Ideal) x5 x1 (ix2 l 0) = (x1 (ix3 0 l 0) * weight (tokAt x5) l : EReal) := by
  rw [← weight_apply]
  have hc : shapeCast S64x1 x1 shapeCasts_S1x64x1_S64x1 (ix2 l 0) = x1 (ix3 0 l 0) := by pointwise
  rw [← hc]
  rfl

/-- The label of a block. -/
theorem labelOf_eq (x2 : Vec Ideal S1x64x1 .f32) (x5 : Vec Ideal S1x64x1 .i32) :
    labelOf x2 x5 = label (fun l => x2 (ix3 0 l 0)) (tokAt x5) := by
  have : labelOf x2 x5 = Ideal.div (totalOf (k0_pay11 x5 x2)) (Ideal.ofBits .f32 0x42800000#32) := rfl
  rw [this, totalOf_eq]
  simp only [logit_apply]
  rfl

/-- The greatest entries of the block's rows, as the kernel takes them. -/
def rowTop (x0 : FVec Ideal S64x32000 .f32) : FVec Ideal S64 .f32 :=
  multiReduction .maximumf [1] S64 x0 0xFF800000#32 reduces_S64x32000_S64 (.inl rfl) rfl

/-- The kernel's largest entry of a row is `top` of the row. -/
theorem rowTop_apply (x0 : FVec Ideal S64x32000 .f32) (l : Fin 64) : rowTop x0 (ix1 l) = top fun k => x0 (ix2 l k) := by
  unfold rowTop
  pointwise
  rw [ofBits_neg_inf]
  rfl

/-- The logarithms of the rows' masses, as the kernel takes them. -/
def rowLog (x0 : FVec Ideal S64x32000 .f32) : FVec Ideal S64x1 .f32 :=
  log (shapeCast S64x1 (multiReduction .add [1] S64 (exp (subf x0 (broadcastTo S64x32000 (shapeCast S64x1 (rowTop x0)
    shapeCasts_S64_S64x1) broadcasts_S64x1_S64x32000))) 0x00000000#32 reduces_S64x32000_S64 (.inl rfl) rfl)
    shapeCasts_S64_S64x1)

/-- The kernel's logarithm of a row is that of the row's sum of exponentials. -/
theorem rowLog_apply (x0 : FVec Ideal S64x32000 .f32) (l : Fin 64) :
    rowLog x0 (ix2 l 0) = Ideal.log (mass fun k => x0 (ix2 l k)) := by
  unfold rowLog mass
  rw [← rowTop_apply]
  generalize rowTop x0 = m
  pointwise

/-- The masked scores before a zero is replaced, as the kernel takes them. -/
def rowScore (x0 : FVec Ideal S64x32000 .f32) (x5 : Vec Ideal S1x64x1 .i32) : FVec Ideal S64x1 .f32 :=
  select (k0_pay7 (F := Ideal) x5) (subf (broadcast S64x1 (Scalar.ofBits .f32 0x00000000#32)) (rowLog x0))
    (broadcast S64x1 (Scalar.ofBits .f32 0xFF800000#32))

/-- The kernel's score: minus that logarithm at a counted position, −∞ at any other. -/
theorem rowScore_apply (x0 : FVec Ideal S64x32000 .f32) (x5 : Vec Ideal S1x64x1 .i32) (l : Fin 64) :
    rowScore x0 x5 (ix2 l 0) = if Counted (tokAt x5) l then 0 - Ideal.log (mass fun k => x0 (ix2 l k)) else ⊥ := by
  have hz : Ideal.ofBits .f32 0x00000000#32 = 0 := by simp [Ideal.ofBits, Ideal.ieee]
  unfold rowScore
  rw [ValueIdx.select_apply, mask_apply, ← rowLog_apply, ← hz, ← ofBits_neg_inf]
  unfold Scalar.select
  by_cases h : Counted (tokAt x5) l <;> simp only [h, decide_true, decide_false, if_true, if_false]
  · rfl
  · rfl

/-- The score of a position of the block. -/
theorem score_apply (x0 : Vec Ideal S64x32000 .f32) (x5 : Vec Ideal S1x64x1 .i32) (l : Fin 64) :
    k0_pay10 x0 x5 (ix2 l 0) = score (fun l k => x0 (ix2 l k)) (tokAt x5) l := by
  have hpay : k0_pay10 x0 x5 = select (cmpf .oeq (rowScore (shapeCast S64x32000 x0 shapeCasts_S64x32000_S64x32000) x5)
      (broadcast S64x1 (Scalar.ofBits .f32 0x00000000#32))) (broadcast S64x1 (Scalar.ofBits .f32 0xFF800000#32))
      (rowScore (shapeCast S64x32000 x0 shapeCasts_S64x32000_S64x32000) x5) := rfl
  have hc : shapeCast S64x32000 x0 shapeCasts_S64x32000_S64x32000 = x0 := shapeCast_self _ _
  have hz : Scalar.ofBits (F := Ideal) .f32 0x00000000#32 = (0 : EReal) := by
    show Ideal.ofBits .f32 0x00000000#32 = 0
    simp [Ideal.ofBits, Ideal.ieee]
  have hb : Scalar.ofBits (F := Ideal) .f32 0xFF800000#32 = (⊥ : EReal) := ofBits_neg_inf
  rw [hpay, hc, ValueIdx.select_apply, ValueIdx.cmpf_apply, ValueIdx.broadcast_apply, ValueIdx.broadcast_apply, hz, hb,
    rowScore_apply, Ideal.cmpf_def]
  unfold score drop0 Scalar.select
  generalize (if Counted (tokAt x5) l then 0 - Ideal.log (mass fun k => x0 (ix2 l k)) else (⊥ : EReal)) = y
  by_cases hy : y = 0 <;> simp [hy, Ideal.cmp]

/-- The prediction of a block. -/
theorem predOf_spec (x0 : Vec Ideal S64x32000 .f32) (x1 : Vec Ideal S1x64x1 .f32) (x5 : Vec Ideal S1x64x1 .i32) :
    predOf x0 x1 x5 = pred (fun l k => x0 (ix2 l k)) (fun l => x1 (ix3 0 l 0)) (tokAt x5) := by
  rw [predOf_rank, count_eq]
  have hs : scoreAt (k0_pay10 x0 x5) = score (fun l k => x0 (ix2 l k)) (tokAt x5) := funext fun l => score_apply x0 x5 l
  rw [hs]
  simp only [logit_apply]
  rfl

end Cert.KernelIdeal.Region
-- ==== Proof.RefStages.lean ====
/- The reference's result as a composition of named stages: mask, scores, picked positions, predictions, labels, loss. -/
module

public import proofs.«01_k».proof.Proof.KernelRow
public import proofs.«01_k».proof.Proof.Gen.ReferenceIdeal.Run

@[expose] public section

set_option maxRecDepth 16384

noncomputable section

namespace Cert.ReferenceIdeal.Stages

open Idealize.ShloMosaic Idealize.ShloMosaic.TcCoe
open Cert.ReferenceIdeal Cert.ReferenceIdeal.Gen

/-- The running count of end tokens of each batch. -/
def counts (tok : IVec S32x64 32) : IVec S32x64 32 :=
  Host.reduceWindow IntOp.addi ![1, 64] ![1, 1] ![0, 63] ![0, 0]
    (extui 32 (cmpi .eq tok (broadcastInDim S32x64 ![] bcast_S_S32x64 (constantI S_ 32 2#32))) natLt_1_32)
    (broadcastInDim S_ ![] bcast_S_S_ (constantI S_ 32 0#32)) reduceWindows_S32x64_S32x64_w1s1p0_0_w64s1p63_0 h_S_

/-- The counted positions: the first, and each whose predecessor's count is zero. -/
def mask (tok : IVec S32x64 32) : IVec S32x64 1 :=
  concatenate S32x64 1 [⟨S32x1, (broadcastInDim S32x1 ![] bcast_S_S32x1 (constantI S_ 1 1#1))⟩,
    ⟨S32x63, (extractStridedSlice S32x63 ![0, 0] (cmpi .eq (counts tok)
      (broadcastInDim S32x64 ![] bcast_S_S32x64 (constantI S_ 32 0#32))) slices_S32x64_S32x63_0_0)⟩]
    concatenates_S32x1_S32x63_S32x64_d1

/-- The mask as numbers. -/
def weights (tok : IVec S32x64 32) : FVec Ideal S32x64x1 .f32 :=
  broadcastInDim S32x64x1 ![0, 1] bcast_S32x64_S32x64x1_0_1 (uitofp .f32 (mask tok))

/-- The greatest entry of each row, as the reference takes it. -/
def tops (g : FVec Ideal S32x64x32000 .f32) : FVec Ideal S32x64 .f32 :=
  maximumf (broadcastInDim S32x64 ![] bcast_S_S32x64 (constant S_ .f32 0xFF800000#32))
    (Host.reduce FloatOps.maximumf g (constant S_ .f32 0xFF800000#32) reducesTo_S32x64x32000_S32x64_d2 h_S_)

/-- The entries less their row's greatest. -/
def shifted (g : FVec Ideal S32x64x32000 .f32) : FVec Ideal S32x64x32000 .f32 :=
  subf g (broadcastInDim S32x64x32000 ![0, 1, 2] bcast_S32x64x1_S32x64x32000_0_1_2
    (broadcastInDim S32x64x1 ![0, 1] bcast_S32x64_S32x64x1_0_1 (tops g)))

/-- The log-softmax, each row times its weight. -/
def weighted (g : FVec Ideal S32x64x32000 .f32) (tok : IVec S32x64 32) : FVec Ideal S32x64x32000 .f32 :=
  mulf (subf (shifted g) (broadcastInDim S32x64x32000 ![0, 1, 2] bcast_S32x64x1_S32x64x32000_0_1_2
    (Host.log (broadcastInDim S32x64x1 ![0, 1] bcast_S32x64_S32x64x1_0_1
      (Host.reduceAdd (Host.exp (shifted g)) (constant S_ .f32 0x00000000#32) reducesTo_S32x64x32000_S32x64_d2 h_S_)))))
    (broadcastInDim S32x64x32000 ![0, 1, 2] bcast_S32x64x1_S32x64x32000_0_1_2 (weights tok))

/-- The scores: the greatest of each row's log-softmax entries, a zero entry read as −∞. -/
def scores (g : FVec Ideal S32x64x32000 .f32) (tok : IVec S32x64 32) : FVec Ideal S32x64 .f32 :=
  Host.reduce FloatOps.maximumf (select (cmpf .oeq (weighted g tok)
      (broadcastInDim S32x64x32000 ![] bcast_S_S32x64x32000 (constant S_ .f32 0x00000000#32)))
    (broadcastInDim S32x64x32000 ![] bcast_S_S32x64x32000 (id (constant S_ .f32 0xFF800000#32))) (weighted g tok))
    (constant S_ .f32 0xFF800000#32) reducesTo_S32x64x32000_S32x64_d2 h_S_

/-- The positions of the five greatest scores. -/
def picks (s : FVec Ideal S32x64 .f32) : IVec S32x5 32 :=
  (Host.topK S32x5 1 (FloatOps.cmpfTotal .gt) s sliceFits_S32x64_S32x5).2

/-- The batch and position words of the picked entries. -/
def places (p : IVec S32x5 32) : IVec S32x5x2 32 :=
  concatenate S32x5x2 2 [⟨S32x5x1, (broadcastInDim S32x5x1 ![0, 1] bcast_S32x5_S32x5x1_0_1 (broadcastInDim S32x5 ![0, 1] bcast_S32x1_S32x5_0_1
      (select (cmpi .slt (broadcastInDim S32x1 ![0] bcast_S32_S32x1_0 (iotaInDim S32 32 0)) (broadcastInDim S32x1 ![] bcast_S_S32x1 (constantI S_ 32 0#32)))
        (addi (broadcastInDim S32x1 ![0] bcast_S32_S32x1_0 (iotaInDim S32 32 0)) (broadcastInDim S32x1 ![] bcast_S_S32x1 (constantI S_ 32 32#32)))
        (broadcastInDim S32x1 ![0] bcast_S32_S32x1_0 (iotaInDim S32 32 0)))))⟩,
    ⟨S32x5x1, (broadcastInDim S32x5x1 ![0, 1] bcast_S32x5_S32x5x1_0_1
      (select (cmpi .slt p (broadcastInDim S32x5 ![] bcast_S_S32x5 (constantI S_ 32 0#32)))
        (addi p (broadcastInDim S32x5 ![] bcast_S_S32x5 (constantI S_ 32 64#32))) p))⟩] concatenates_S32x5x1_S32x5x1_S32x5x2_d2

/-- The predictions. -/
def preds (u : FVec Ideal S32x64x1 .f32) (g : FVec Ideal S32x64x32000 .f32) (tok : IVec S32x64 32) : FVec Ideal S32 .f32 :=
  Host.divf (Host.reduceAdd (shapeCast S32x5 (Host.gather gather_S32x64x1_S32x5x2_S32x5x1_2_01_n_n_01_2_111
      (mulf u (weights tok)) (places (picks (scores g tok)))) shapeCasts_S32x5x1_S32x5) (constant S_ .f32 0x00000000#32)
      reducesTo_S32x5_S32_d1 h_S_)
    (Host.reduceAdd (shapeCast S32x64 (weights tok) shapeCasts_S32x64x1_S32x64) (constant S_ .f32 0x00000000#32)
      reducesTo_S32x64_S32_d1 h_S_)

/-- The labels. -/
def labels (u : FVec Ideal S32x64x1 .f32) (tok : IVec S32x64 32) : FVec Ideal S32 .f32 :=
  Host.divf (Host.reduceAdd (shapeCast S32x64 (mulf u (weights tok)) shapeCasts_S32x64x1_S32x64)
    (constant S_ .f32 0x00000000#32) reducesTo_S32x64_S32_d1 h_S_)
    (broadcastInDim S32 ![] bcast_S_S32 (constant S_ .f32 0x42800000#32))

/-- A vector of 32 values as the row of every line of a square. -/
def tile (x : FVec Ideal S32 .f32) : FVec Ideal S32x32 .f32 :=
  shapeCast S32x32 (broadcastInDim S32x1x1x32 ![0, 1, 2, 3] bcast_S1x1x1x32_S32x1x1x32_0_1_2_3
    (shapeCast S1x1x1x32 (broadcastInDim S1x32 ![1] bcast_S32_S1x32_1 x) shapeCasts_S1x32_S1x1x1x32)) shapeCasts_S32x1x1x32_S32x32

/-- The differences of the values of every two batches. -/
def diff (x : FVec Ideal S32 .f32) : FVec Ideal S32x32 .f32 :=
  subf (tile x) (transpose S32x32 [1, 0] (tile x) transposes_S32x32_S32x32_1_0)

/-- One where a difference lies strictly between zero and the bound, in size. -/
def near (b : BitVec 32) (d : FVec Ideal S32x32 .f32) : FVec Ideal S32x32 .f32 :=
  uitofp .f32 (andi (cmpf .olt (Host.absf d) (broadcastInDim S32x32 ![] bcast_S_S32x32 (constant S_ .f32 b)))
    (cmpf .ogt (Host.absf d) (broadcastInDim S32x32 ![] bcast_S_S32x32 (constant S_ .f32 0x00000000#32))))

/-- The loss of predictions `p`, labels `l` and times `t`. -/
def loss (p l t : FVec Ideal S32 .f32) : FVec Ideal S_ .f32 :=
  mulf (Host.divf
    (Host.reduceAdd (mulf (mulf (near 0x3F800000#32 (diff l)) (near 0x3DF5C28F#32 (diff t)))
      (maximumf (mulf (Host.negf (mulf (Host.sign (diff l)) (near 0x3DF5C28F#32 (diff t)))) (diff p))
        (broadcastInDim S32x32 ![] bcast_S_S32x32 (constant S_ .f32 0x00000000#32))))
      (constant S_ .f32 0x00000000#32) reducesTo_S32x32_S_d0_1 h_S_)
    (addf (Host.reduceAdd (mulf (near 0x3F800000#32 (diff l)) (near 0x3DF5C28F#32 (diff t)))
      (constant S_ .f32 0x00000000#32) reducesTo_S32x32_S_d0_1 h_S_) (constant S_ .f32 0x322BCC77#32)))
    (constant S_ .f32 0x3F800000#32)

/-- The reference's result is the loss of its predictions and labels at the given times. -/
theorem result_eq (m : (ℓ : Loc nD τ sig) → Buf (Elt Ideal) ℓ) (c : Dev nD) :
    Cert.ReferenceIdeal.Value.res_main_v90 m c =
      loss (preds (m ((c.tc : Thread nD τ).loc main_arg0)) (m ((c.tc : Thread nD τ).loc main_arg2)) (m ((c.tc : Thread nD τ).loc main_arg4)))
        (labels (m ((c.tc : Thread nD τ).loc main_arg1)) (m ((c.tc : Thread nD τ).loc main_arg4)))
        (m ((c.tc : Thread nD τ).loc main_arg3)) := rfl

end Cert.ReferenceIdeal.Stages
-- ==== Proof.RefMask.lean ====
/- The reference's mask: its running count of end tokens is zero exactly where no token so far is the end token. -/
module

public import proofs.«01_k».proof.Proof.RefStages
public import Idealize.ShloMosaic.Lib.Routing.Ops

@[expose] public section

set_option maxRecDepth 16384

noncomputable section

namespace Cert.ReferenceIdeal.Stages

open Idealize.ShloMosaic Cert.Spec
open Cert.ReferenceIdeal Cert.ReferenceIdeal.Gen

/-- The tokens of batch `b` by position. -/
abbrev tokOf (tok : IVec S32x64 32) (b : Fin 32) (l : Fin 64) : BitVec 32 := tok (ix2 b l)

/-- One at an end token, zero elsewhere and past the last position. -/
def isEnd (tok : IVec S32x64 32) (b : Fin 32) (l : Nat) : Nat :=
  if h : l < 64 then if tokOf tok b ⟨l, h⟩ = 2#32 then 1 else 0 else 0

/-- The running count at position `j`, as a sum over the window that ends there. -/
theorem counts_apply (tok : IVec S32x64 32) (b : Fin 32) (j : Fin 64) :
    counts tok (ix2 b j) = BitVec.ofNat 32 (((List.finRange (Routing.shape2 1 64).numel).map fun n =>
      if 63 ≤ j.val + n.val then isEnd tok b (j.val + n.val - 63) else 0).sum) := by
  have hj := j.isLt
  have hx : ∀ i : Fin 64, (extui 32 (cmpi .eq tok (broadcastInDim S32x64 ![] bcast_S_S32x64 (constantI S_ 32 2#32))) natLt_1_32 : IVec S32x64 32)
      (ix2 b i) = BitVec.ofNat 32 (isEnd tok b i.val) := by
    intro i
    have hw : ∀ w : BitVec 32, (IntOp.cmpi .eq w 2#32).setWidth 32 = BitVec.ofNat 32 (if w = 2#32 then 1 else 0) := by
      intro w
      by_cases h : w = 2#32
      · simp [IntOp.cmpi, h]
      · have hb : (w == 2#32) = false := by simpa using h
        simp [IntOp.cmpi, h, hb]
    unfold isEnd
    rw [dif_pos i.isLt]
    exact hw (tok (ix2 b i))
  unfold counts
  generalize (extui 32 (cmpi .eq tok (broadcastInDim S32x64 ![] bcast_S_S32x64 (constantI S_ 32 2#32))) natLt_1_32 : IVec S32x64 32) = x at hx
  unfold Host.reduceWindow
  refine (Routing.foldl_addi_ofNat _ _ (fun n => if 63 ≤ j.val + n.val then isEnd tok b (j.val + n.val - 63) else 0)
    (fun n _ => ?_) _ 0 rfl).trans (by rw [Nat.zero_add])
  have hw0 : ((Routing.shape2 1 64).rowMajor.symm n 0).val = 0 := by rw [Routing.symm2]; rfl
  have hw : ((Routing.shape2 1 64).rowMajor.symm n 1).val = n.val := by rw [Routing.symm2]; rfl
  have hn : n.val < 64 := (n.cast (Routing.numel2 _)).isLt
  dsimp only
  split
  · next hin =>
    have h1 := hin 1
    change 63 ≤ j.val * 1 + ((Routing.shape2 1 64).rowMajor.symm n 1).val
      ∧ j.val * 1 + ((Routing.shape2 1 64).rowMajor.symm n 1).val - 63 < 64 at h1
    rw [hw] at h1
    rw [if_pos (by omega)]
    refine (congrArg x (funext fun a => Fin.ext ?_)).trans (hx ⟨j.val + n.val - 63, by omega⟩)
    match a with
    | ⟨0, _⟩ =>
      show b.val * 1 + ((Routing.shape2 1 64).rowMajor.symm n 0).val - 0 = b.val
      rw [hw0]; omega
    | ⟨1, _⟩ =>
      show j.val * 1 + ((Routing.shape2 1 64).rowMajor.symm n 1).val - 63 = j.val + n.val - 63
      rw [hw, Nat.mul_one]
  · next hin =>
    rw [if_neg fun hle => hin fun a => by
      match a with
      | ⟨0, _⟩ =>
        show 0 ≤ b.val * 1 + ((Routing.shape2 1 64).rowMajor.symm n 0).val
          ∧ b.val * 1 + ((Routing.shape2 1 64).rowMajor.symm n 0).val - 0 < 32
        rw [hw0]
        have := b.isLt
        omega
      | ⟨1, _⟩ =>
        show 63 ≤ j.val * 1 + ((Routing.shape2 1 64).rowMajor.symm n 1).val
          ∧ j.val * 1 + ((Routing.shape2 1 64).rowMajor.symm n 1).val - 63 < 64
        rw [hw]
        omega]
    rfl

/-- The count is zero exactly when no position up to `j` holds the end token. -/
theorem counts_zero (tok : IVec S32x64 32) (b : Fin 32) (j : Fin 64) :
    counts tok (ix2 b j) = 0#32 ↔ ∀ l : Fin 64, l ≤ j → tokOf tok b l ≠ 2#32 := by
  rw [counts_apply]
  have hle : ((List.finRange (Routing.shape2 1 64).numel).map fun n =>
      if 63 ≤ j.val + n.val then isEnd tok b (j.val + n.val - 63) else 0).sum ≤ 64 := by
    refine (List.sum_le_card_nsmul _ 1 ?_).trans ?_
    · intro x hx
      rw [List.mem_map] at hx
      obtain ⟨n, _, rfl⟩ := hx
      unfold isEnd
      split
      · split
        · split <;> omega
        · omega
      · omega
    · rw [List.length_map, List.length_finRange, Routing.numel2]; simp
  have h0 : ∀ s : Nat, s ≤ 64 → (BitVec.ofNat 32 s = 0#32 ↔ s = 0) := by
    intro s hs
    constructor
    · intro h
      have := congrArg BitVec.toNat h
      simp only [BitVec.toNat_ofNat] at this
      omega
    · rintro rfl; rfl
  rw [h0 _ hle, List.sum_eq_zero_iff]
  constructor
  · intro h l hl he
    have hn : 63 - j.val + l.val < (Routing.shape2 1 64).numel := by
      rw [Routing.numel2]
      have := Fin.le_def.1 hl
      omega
    have := h _ (List.mem_map.2 ⟨⟨63 - j.val + l.val, hn⟩, List.mem_finRange _, rfl⟩)
    have hjl := j.isLt
    have e : j.val + (63 - j.val + l.val) - 63 = l.val := by omega
    simp only [e] at this
    rw [if_pos (by omega)] at this
    unfold isEnd at this
    rw [dif_pos l.isLt, if_pos he] at this
    exact absurd this (by decide)
  · intro h x hx
    rw [List.mem_map] at hx
    obtain ⟨n, _, rfl⟩ := hx
    have hn : n.val < 64 := (n.cast (Routing.numel2 _)).isLt
    split
    · unfold isEnd
      rw [dif_pos (by omega), if_neg (h _ (Fin.le_def.2 (by show j.val + n.val - 63 ≤ j.val; omega)))]
    · rfl

/-- The reference's mask is one exactly at the counted positions. -/
theorem mask_apply (tok : IVec S32x64 32) (b : Fin 32) (l : Fin 64) :
    mask tok (ix2 b l) = BitVec.ofBool (decide (Counted (tokOf tok b) l)) := by
  have h0 := fun j => counts_zero tok b j
  unfold mask
  generalize counts tok = c at h0
  pointwise
  have hw : ∀ w : BitVec 32, IntOp.cmpi .eq w 0#32 = BitVec.ofBool (decide (w = 0#32)) := by
    intro w
    by_cases h : w = 0#32
    · simp [IntOp.cmpi, h]
    · have hb : (w == 0#32) = false := by simpa using h
      simp [IntOp.cmpi, h, hb]
  split
  · next hl =>
    have : Counted (tokOf tok b) l := fun l' hl' => absurd (Fin.lt_def.1 hl') (by omega)
    simp [this]
  · next hl =>
    rw [hw]
    congr 1
    rw [decide_eq_decide, h0]
    constructor
    · intro h l' hl'
      exact h l' (Fin.le_def.2 (by show l'.val ≤ l.val - 1; have := Fin.lt_def.1 hl'; omega))
    · intro h l' hl'
      exact h l' (Fin.lt_def.2 (by have : l'.val ≤ l.val - 1 := Fin.le_def.1 hl'; omega))

/-- The reference's weights. -/
theorem weights_apply (tok : IVec S32x64 32) (b : Fin 32) (l : Fin 64) :
    weights tok (ix3 b l 0) = weight (tokOf tok b) l := by
  have h0 := mask_apply tok b l
  unfold weights
  generalize mask tok = c at h0
  pointwise
  rw [h0]
  unfold weight
  have h1 : FloatOps.uitofp (F := Ideal) .f32 (1#1) = (1 : EReal) := by
    show (((1#1 : BitVec 1).toNat : ℝ) : EReal) = 1
    simp
  have h2 : FloatOps.uitofp (F := Ideal) .f32 (0#1) = (0 : EReal) := by
    show (((0#1 : BitVec 1).toNat : ℝ) : EReal) = 0
    simp
  by_cases h : Counted (tokOf tok b) l
  · simpa [h] using h1
  · simpa [h] using h2

end Cert.ReferenceIdeal.Stages
-- ==== Proof.Softmax.lean ====
/- The greatest log-softmax entry of a row with a finite greatest entry: minus the logarithm of the row's mass. -/
module

public import proofs.«01_k».proof.Proof.RefMask

@[expose] public section

noncomputable section

namespace Cert.Spec

open Idealize.ShloMosaic

/-- No entry is above `top`. -/
theorem le_top (x : Fin 32000 → EReal) (k : Fin 32000) : x k ≤ top x :=
  (Finset.le_fold_max _).2 (.inr ⟨k, Finset.mem_univ _, le_rfl⟩)

/-- A row whose `top` is above −∞ has an entry equal to it. -/
theorem exists_top (x : Fin 32000 → EReal) (h : top x ≠ ⊥) : ∃ k, x k = top x := by
  rcases (Finset.le_fold_max (s := Finset.univ) (b := (⊥ : EReal)) (f := x) (top x)).1 le_rfl with h' | ⟨k, _, hk⟩
  · exact absurd (le_bot_iff.1 h') h
  · exact ⟨k, le_antisymm (le_top x k) hk⟩

/-- The greatest of a row is below a bound exactly when every entry is. -/
theorem top_le (x : Fin 32000 → EReal) (c : EReal) : top x ≤ c ↔ ∀ k, x k ≤ c := by
  refine Iff.trans (Finset.fold_max_le c) ⟨fun h k => h.2 k (Finset.mem_univ _), fun h => ⟨bot_le, fun k _ => h k⟩⟩

/-- The entry of the log-softmax. -/
def logit (x : Fin 32000 → EReal) (k : Fin 32000) : EReal := x k - top x - Ideal.log (mass x)

/-- The exponential is never negative. -/
theorem exp_nonneg (y : EReal) : 0 ≤ Ideal.exp y := by
  induction y using EReal.rec with
  | bot => exact le_rfl
  | coe r => exact EReal.coe_nonneg.2 (Real.exp_pos r).le
  | top => exact OrderTop.le_top _

/-- The exponential of zero is one. -/
theorem exp_zero : Ideal.exp 0 = 1 := by
  show ((Real.exp 0 : ℝ) : EReal) = 1
  simp

/-- The logarithm of a positive real is the real logarithm. -/
theorem log_pos {s : ℝ} (h : 0 < s) : Ideal.log (s : EReal) = (Real.log s : ℝ) := by
  show (if s ≤ 0 then (⊥ : EReal) else (Real.log s : ℝ)) = _
  rw [if_neg (not_le.2 h)]

/-- The exponential of a number at most zero is at most one. -/
theorem exp_le_one {y : EReal} (h : y ≤ 0) : Ideal.exp y ≤ 1 := by
  induction y using EReal.rec with
  | bot => exact zero_le_one
  | coe r => exact EReal.coe_le_coe_iff.2 (Real.exp_le_one_iff.2 (EReal.coe_nonpos.1 h))
  | top => exact absurd h (by simp)

/-- A number at most zero with exponential zero is −∞. -/
theorem exp_eq_zero {y : EReal} (h : y ≤ 0) (he : Ideal.exp y = 0) : y = ⊥ := by
  induction y using EReal.rec with
  | bot => rfl
  | coe r => exact absurd (EReal.coe_eq_zero.1 he) (Real.exp_pos r).ne'
  | top => exact absurd h (by simp)

variable (x : Fin 32000 → EReal) (ht : top x ≠ ⊤) (hb : top x ≠ ⊥)

include ht hb

/-- An entry less the largest is at most zero. -/
theorem sub_top_nonpos (k : Fin 32000) : x k - top x ≤ 0 := by
  have := le_top x k
  generalize top x = m at *
  lift m to ℝ using ⟨ht, hb⟩
  generalize x k = y at *
  induction y using EReal.rec with
  | bot => simp
  | coe r =>
    rw [← EReal.coe_sub]
    exact EReal.coe_nonpos.2 (sub_nonpos.2 (EReal.coe_le_coe_iff.1 this))
  | top => exact absurd this (by simp)

/-- The largest less itself is zero. -/
theorem sub_top_self : top x - top x = 0 := by
  generalize top x = m at *
  lift m to ℝ using ⟨ht, hb⟩
  rw [← EReal.coe_sub, sub_self]; rfl

/-- The sum of exponentials is at least one. -/
theorem mass_ge : 1 ≤ mass x := by
  obtain ⟨k, hk⟩ := exists_top x hb
  have h1 : Ideal.exp (x k - top x) = 1 := by rw [hk, sub_top_self x ht hb, exp_zero]
  rw [← h1]
  exact Finset.single_le_sum (f := fun k => Ideal.exp (x k - top x)) (fun _ _ => exp_nonneg _) (Finset.mem_univ k)

/-- The sum of exponentials is not +∞. -/
theorem mass_ne_top : mass x ≠ ⊤ := by
  have h : mass x ≤ (Finset.univ : Finset (Fin 32000)).card • (1 : EReal) :=
    Finset.sum_le_card_nsmul Finset.univ _ 1 fun k _ => exp_le_one (sub_top_nonpos x ht hb k)
  generalize (Finset.univ : Finset (Fin 32000)).card = n at h
  rw [nsmul_one] at h
  exact fun e => EReal.natCast_ne_top n (top_le_iff.1 (e ▸ h))

/-- Where the mass is one, every entry but the greatest is −∞. -/
theorem exp_of_mass_one (h1 : mass x = 1) {k j : Fin 32000} (hk : x k = top x) (hj : j ≠ k) : x j - top x = ⊥ := by
  refine exp_eq_zero (sub_top_nonpos x ht hb j) ?_
  have hs : Ideal.exp (x k - top x) + ∑ i ∈ Finset.univ.erase k, Ideal.exp (x i - top x) = 1 := by
    rw [Finset.add_sum_erase _ (fun i => Ideal.exp (x i - top x)) (Finset.mem_univ k)]; exact h1
  have hk1 : Ideal.exp (x k - top x) = 1 := by rw [hk, sub_top_self x ht hb, exp_zero]
  have hle : Ideal.exp (x j - top x) ≤ ∑ i ∈ Finset.univ.erase k, Ideal.exp (x i - top x) :=
    Finset.single_le_sum (f := fun i => Ideal.exp (x i - top x)) (fun _ _ => exp_nonneg _)
      (Finset.mem_erase.2 ⟨hj, Finset.mem_univ j⟩)
  rw [hk1] at hs
  have h0 : ∑ i ∈ Finset.univ.erase k, Ideal.exp (x i - top x) = 0 := by
    generalize ∑ i ∈ Finset.univ.erase k, Ideal.exp (x i - top x) = s at *
    induction s using EReal.rec with
    | bot => exact absurd hs (by rw [EReal.add_bot]; exact (EReal.coe_ne_bot 1).symm)
    | coe r =>
      have h2 : ((1 + r : ℝ) : EReal) = ((1 : ℝ) : EReal) := by rw [EReal.coe_add]; exact hs
      have h3 := EReal.coe_eq_coe_iff.1 h2
      have : r = 0 := by linarith
      rw [this]; rfl
    | top => exact absurd hs (by
        rw [show (1 : EReal) + ⊤ = ⊤ from EReal.coe_add_top 1]; exact (EReal.coe_ne_top 1).symm)
  exact le_antisymm (h0 ▸ hle) (exp_nonneg _)

/-- The greatest entry of the log-softmax with zeros read as −∞ is minus the logarithm of the mass, zero again read as
    −∞. -/
theorem top_logit : top (fun k => drop0 (logit x k)) = drop0 (0 - Ideal.log (mass x)) := by
  have hge := mass_ge x ht hb
  have htop := mass_ne_top x ht hb
  obtain ⟨k, hk⟩ := exists_top x hb
  have hs0 := sub_top_self x ht hb
  have hnon := sub_top_nonpos x ht hb
  have hone := exp_of_mass_one x ht hb
  have hlk : logit x k = 0 - Ideal.log (mass x) := by unfold logit; rw [hk, hs0]
  have hmb : mass x ≠ ⊥ := fun e => by
    rw [e] at hge; exact EReal.coe_ne_bot 1 (le_bot_iff.1 hge)
  by_cases h1 : mass x = 1
  · have hl : Ideal.log (mass x) = 0 := by
      rw [h1]
      exact (log_pos one_pos).trans (by simp)
    rw [hl]
    have h0 : drop0 (0 - 0 : EReal) = ⊥ := by simp [drop0]
    rw [h0]
    refine le_bot_iff.1 ((top_le _ _).2 fun j => ?_)
    by_cases hj : j = k
    · rw [hj, hlk, hl, h0]
    · unfold logit
      rw [hone h1 hk hj, hl]
      simp [drop0]
  · obtain ⟨L, hL, hlog⟩ : ∃ L : ℝ, 0 < L ∧ Ideal.log (mass x) = (L : EReal) := by
      generalize mass x = s at *
      lift s to ℝ using ⟨htop, hmb⟩
      have hs : 1 ≤ s := EReal.coe_le_coe_iff.1 hge
      have hs1 : s ≠ 1 := fun e => h1 (by rw [e]; rfl)
      refine ⟨Real.log s, Real.log_pos (lt_of_le_of_ne hs (Ne.symm hs1)), ?_⟩
      exact log_pos (by linarith)
    have hd : drop0 (0 - (L : EReal)) = 0 - (L : EReal) := by
      unfold drop0
      rw [if_neg]
      rw [zero_sub, ← EReal.coe_neg]
      exact fun e => by have := EReal.coe_eq_zero.1 e; linarith
    rw [hlog, hd]
    refine le_antisymm ((top_le _ _).2 fun j => ?_) ?_
    · have hj : logit x j ≤ 0 - (L : EReal) := by
        unfold logit
        rw [hlog]
        exact EReal.sub_le_sub (hnon j) le_rfl
      unfold drop0
      split
      · exact bot_le
      · exact hj
    · have := le_top (fun k => drop0 (logit x k)) k
      simp only [hlk, hlog, hd] at this
      exact this

end Cert.Spec
-- ==== Proof.RefScore.lean ====
/- The reference's scores: where every row has a finite greatest entry, they are the scores of the plain mathematics. -/
module

public import proofs.«01_k».proof.Proof.Softmax

@[expose] public section

set_option maxRecDepth 16384

noncomputable section

namespace Cert.ReferenceIdeal.Stages

open Idealize.ShloMosaic Cert.Spec
open Cert.ReferenceIdeal Cert.ReferenceIdeal.Gen
open Cert.KernelIdeal.Region (ofBits_neg_inf)

/-- The zero word is the number zero. -/
theorem ofBits_zero_f32 : Ideal.ofBits .f32 0x00000000#32 = 0 := by simp [Ideal.ofBits, Ideal.ieee]

/-- The rows of batch `b`. -/
abbrev rowOf (g : FVec Ideal S32x64x32000 .f32) (b : Fin 32) (l : Fin 64) (k : Fin 32000) : EReal := g (ix3 b l k)

/-- A row's greatest entry, as a reduction of the host takes it. -/
theorem rowMax_apply (g : FVec Ideal S32x64x32000 .f32) (b : Fin 32) (l : Fin 64) :
    Host.reduce FloatOps.maximumf g (constant S_ .f32 0xFF800000#32) reducesTo_S32x64x32000_S32x64_d2 h_S_ (ix2 b l)
      = top (rowOf g b l) := by
  pointwise
  rw [ofBits_neg_inf]
  rfl

/-- Nothing is below −∞. -/
theorem max_bot_apply (t : FVec Ideal S32x64 .f32) (b : Fin 32) (l : Fin 64) :
    maximumf (broadcastInDim S32x64 ![] bcast_S_S32x64 (constant S_ .f32 0xFF800000#32)) t (ix2 b l) = t (ix2 b l) := by
  pointwise
  rw [ofBits_neg_inf]
  exact max_eq_right bot_le

/-- The reference's largest entry of a row is `top` of the row. -/
theorem tops_apply (g : FVec Ideal S32x64x32000 .f32) (b : Fin 32) (l : Fin 64) :
    tops g (ix2 b l) = top (rowOf g b l) := by
  exact (max_bot_apply _ b l).trans (rowMax_apply g b l)

/-- The reference's shifted entry is the entry less the row's largest. -/
theorem shifted_apply (g : FVec Ideal S32x64x32000 .f32) (b : Fin 32) (l : Fin 64) (k : Fin 32000) :
    shifted g (ix3 b l k) = rowOf g b l k - top (rowOf g b l) := by
  rw [← tops_apply]
  unfold shifted
  generalize tops g = t
  pointwise

/-- The logarithms of the rows' masses. -/
theorem logs_apply (g : FVec Ideal S32x64x32000 .f32) (b : Fin 32) (l : Fin 64) :
    Host.reduceAdd (Host.exp (shifted g)) (constant S_ .f32 0x00000000#32) reducesTo_S32x64x32000_S32x64_d2 h_S_ (ix2 b l)
      = mass (rowOf g b l) := by
  unfold mass
  simp only [← shifted_apply]
  generalize shifted g = t
  pointwise

/-- The reference's weighted entry is the log-softmax entry times the position's weight. -/
theorem weighted_apply (g : FVec Ideal S32x64x32000 .f32) (tok : IVec S32x64 32) (b : Fin 32) (l : Fin 64) (k : Fin 32000) :
    weighted g tok (ix3 b l k) = logit (rowOf g b l) k * weight (tokOf tok b) l := by
  have h := logs_apply g b l
  have hw := weights_apply tok b l
  have hs := shifted_apply g b l k
  unfold weighted logit
  rw [← h, ← hw, ← hs]
  generalize Host.reduceAdd (Host.exp (shifted g)) (constant S_ .f32 0x00000000#32) reducesTo_S32x64x32000_S32x64_d2 h_S_ = s
  generalize weights tok = w
  generalize shifted g = t
  pointwise

/-- The reference's scores before the rows are known finite. -/
theorem scores_top (g : FVec Ideal S32x64x32000 .f32) (tok : IVec S32x64 32) (b : Fin 32) (l : Fin 64) :
    scores g tok (ix2 b l) = top fun k => drop0 (logit (rowOf g b l) k * weight (tokOf tok b) l) := by
  simp only [← weighted_apply]
  unfold scores
  generalize weighted g tok = t
  rw [rowMax_apply]
  congr 1
  funext k
  show (select _ _ _ (ix3 b l k) : EReal) = _
  rw [ValueIdx.select_apply, ValueIdx.cmpf_apply, ValueIdx.broadcastInDim_scalar_apply, ValueIdx.broadcastInDim_scalar_apply, Ideal.cmpf_def]
  have hz : (constant (F := Ideal) S_ .f32 0x00000000#32 ValueIdx.ix0 : EReal) = 0 := ofBits_zero_f32
  have hb : (id (constant (F := Ideal) S_ .f32 0xFF800000#32) ValueIdx.ix0 : EReal) = ⊥ := ofBits_neg_inf
  rw [hz, hb]
  unfold drop0 Scalar.select
  generalize (t (ix3 b l k) : EReal) = y
  by_cases hy : y = 0 <;> simp [hy, Ideal.cmp]

/-- The reference's scores. -/
theorem scores_apply (g : FVec Ideal S32x64x32000 .f32) (tok : IVec S32x64 32) (b : Fin 32) (l : Fin 64)
    (ht : top (rowOf g b l) ≠ ⊤) (hb : top (rowOf g b l) ≠ ⊥) :
    scores g tok (ix2 b l) = score (rowOf g b) (tokOf tok b) l := by
  rw [scores_top]
  unfold weight score
  by_cases h : Counted (tokOf tok b) l
  · simp only [h, if_true, mul_one]
    exact top_logit _ ht hb
  · simp only [h, if_false, mul_zero]
    have h0 : drop0 0 = ⊥ := by simp [drop0]
    have h1 : drop0 ⊥ = ⊥ := by simp [drop0]
    rw [h0, h1]
    exact le_bot_iff.1 ((top_le _ _).2 fun _ => le_rfl)

end Cert.ReferenceIdeal.Stages
-- ==== Proof.RefPicks.lean ====
/- The positions the reference picks are the ranks of the scores, and the entries it gathers are the ones there. -/
module

public import proofs.«01_k».proof.Proof.RefScore

@[expose] public section

set_option maxRecDepth 16384

noncomputable section

namespace Cert.ReferenceIdeal.Stages

open Idealize.ShloMosaic Cert.Spec Cert.Order
open Cert.ReferenceIdeal Cert.ReferenceIdeal.Gen

/-- The rank of the `r`-th pick. -/
abbrev fifth (r : Fin 5) : Fin 64 := r.castLE (by decide)

/-- The word of a pick is its position's. -/
theorem picks_apply (s : FVec Ideal S32x64 .f32) (b : Fin 32) (r : Fin 5) :
    picks s (ix2 b r) = BitVec.ofNat 32 (rank (fun l => s (ix2 b l)) (fifth r)).val := by
  unfold picks Host.topK
  dsimp only
  refine (extractStridedSlice_apply _ _ _ (ix2 b r) (ix2 b (fifth r)) (fun a => ?_)).trans ?_
  · match a with
    | ⟨0, _⟩ => exact (Nat.zero_add _).symm
    | ⟨1, _⟩ => exact (Nat.zero_add _).symm
  unfold Host.sort2
  rw [dif_pos (by decide : (1 : Nat) < S32x64.rank)]
  have ha : ∀ k : Fin 64, (ix2 b (fifth r) : S32x64.Idx).along 1 k = ix2 b k := by
    intro k
    funext a
    match a with
    | ⟨0, _⟩ => rfl
    | ⟨1, _⟩ => rfl
  have hi : ∀ q : Fin 64, (if hd : 1 < S32x64.rank then iotaInDim S32x64 32 ⟨1, hd⟩ ((ix2 b (fifth r) : S32x64.Idx).along 1 q)
      else 0#32) = BitVec.ofNat 32 q.val := by
    intro q
    rw [ha]
    rfl
  have hc : ∀ k k' : Fin 64, (FloatOps.cmpfTotal .gt (s ((ix2 b (fifth r) : S32x64.Idx).along 1 k))
      (s ((ix2 b (fifth r) : S32x64.Idx).along 1 k')) == 1#1) = decide ((s (ix2 b k') : EReal) < s (ix2 b k)) := by
    intro k k'
    rw [ha, ha, Ideal.cmpfTotal_def]
    generalize (s (ix2 b k) : EReal) = x
    generalize (s (ix2 b k') : EReal) = y
    by_cases h : y < x <;> simp [Ideal.cmp, CmpDirection.ordered, h]
  dsimp only
  refine (hi _).trans ?_
  unfold rank
  refine congrArg (fun f : Fin 64 → Fin 64 → Bool => BitVec.ofNat 32 (sortedFrom f (fifth r)).val) ?_
  exact funext fun k => funext fun k' => hc k k'

/-- A small natural as a word, read signed. -/
theorem toInt_toNat_small (n : Nat) (hn : n < 64) : (BitVec.ofNat 32 n).toInt.toNat = n := by
  rw [BitVec.toInt_eq_toNat_of_lt] <;> simp only [BitVec.toNat_ofNat] <;> omega

/-- A number below 64 is not negative as a signed word. -/
theorem small_not_neg (n : Nat) (hn : n < 64) : IntOp.cmpi .slt (BitVec.ofNat 32 n) 0#32 = 0#1 := by
  have : ¬ (BitVec.ofNat 32 n).slt 0#32 = true := by
    rw [BitVec.slt_eq_decide, decide_eq_true_eq, BitVec.toInt_eq_toNat_of_lt (by simp only [BitVec.toNat_ofNat]; omega),
      BitVec.toInt_zero]
    omega
  simp [IntOp.cmpi, this]

/-- The first word of a place is its batch. -/
theorem places_zero (p : IVec S32x5 32) (b : Fin 32) (r : Fin 5) : places p (ix3 b r 0) = BitVec.ofNat 32 b.val := by
  have := small_not_neg b.val (by omega)
  unfold places
  pointwise
  rw [this]
  rfl

/-- The second word of a place is the pick. -/
theorem places_one (p : IVec S32x5 32) (b : Fin 32) (r : Fin 5) (n : Nat) (hn : n < 64) (h : p (ix2 b r) = BitVec.ofNat 32 n) :
    places p (ix3 b r 1) = BitVec.ofNat 32 n := by
  have := small_not_neg n hn
  unfold places
  pointwise
  rw [h, this]
  rfl

/-- The gather reads, at batch `b`, the position its place names. -/
theorem gather_apply (x : FVec Ideal S32x64x1 .f32) (w : IVec S32x5x2 32) (b : Fin 32) (r : Fin 5) (l : Fin 64)
    (h0 : w (ix3 b r 0) = BitVec.ofNat 32 b.val) (h1 : w (ix3 b r 1) = BitVec.ofNat 32 l.val) :
    Host.gather gather_S32x64x1_S32x5x2_S32x5x1_2_01_n_n_01_2_111 x w (ix3 b r 0) = x (ix3 b l 0) := by
  have i0 : (gather_S32x64x1_S32x5x2_S32x5x1_2_01_n_n_01_2_111).siIdx (ix3 b r 0 : S32x5x1.Idx) (0 : Fin 2) = (ix3 b r 0 : S32x5x2.Idx) := by
    funext a
    match a with
    | ⟨0, _⟩ => rfl
    | ⟨1, _⟩ => rfl
    | ⟨2, _⟩ => rfl
  have i1 : (gather_S32x64x1_S32x5x2_S32x5x1_2_01_n_n_01_2_111).siIdx (ix3 b r 0 : S32x5x1.Idx) (1 : Fin 2) = (ix3 b r 1 : S32x5x2.Idx) := by
    funext a
    match a with
    | ⟨0, _⟩ => rfl
    | ⟨1, _⟩ => rfl
    | ⟨2, _⟩ => rfl
  unfold Host.gather
  refine congrArg x (funext fun a => Fin.ext ?_)
  match a with
  | ⟨0, _⟩ =>
    show min (w ((gather_S32x64x1_S32x5x2_S32x5x1_2_01_n_n_01_2_111).siIdx (ix3 b r 0 : S32x5x1.Idx) (0 : Fin 2))).toInt.toNat 31 + 0 + 0 = b.val
    rw [i0, h0, toInt_toNat_small _ (by omega)]
    omega
  | ⟨1, _⟩ =>
    show min (w ((gather_S32x64x1_S32x5x2_S32x5x1_2_01_n_n_01_2_111).siIdx (ix3 b r 0 : S32x5x1.Idx) (1 : Fin 2))).toInt.toNat 63 + 0 + 0 = l.val
    rw [i1, h1, toInt_toNat_small _ (by omega)]
    omega
  | ⟨2, _⟩ => rfl

/-- The sum of a batch's picked entries. -/
theorem picked_sum (x : FVec Ideal S32x64x1 .f32) (s : FVec Ideal S32x64 .f32) (b : Fin 32) :
    Host.reduceAdd (shapeCast S32x5 (Host.gather gather_S32x64x1_S32x5x2_S32x5x1_2_01_n_n_01_2_111 x (places (picks s)))
      shapeCasts_S32x5x1_S32x5) (constant S_ .f32 0x00000000#32) reducesTo_S32x5_S32_d1 h_S_ (ix1 b)
      = ∑ r : Fin 5, (x (ix3 b (rank (fun l => s (ix2 b l)) (fifth r)) 0) : EReal) := by
  have h : ∀ r : Fin 5, Host.gather gather_S32x64x1_S32x5x2_S32x5x1_2_01_n_n_01_2_111 x (places (picks s)) (ix3 b r 0)
      = x (ix3 b (rank (fun l => s (ix2 b l)) (fifth r)) 0) := fun r =>
    gather_apply x _ b r _ (places_zero _ b r) (places_one _ b r _ (Fin.isLt _) (picks_apply s b r))
  simp only [← h]
  generalize Host.gather gather_S32x64x1_S32x5x2_S32x5x1_2_01_n_n_01_2_111 x (places (picks s)) = y
  pointwise

/-- The sum of a batch's entries over its positions. -/
theorem row_sum (x : FVec Ideal S32x64x1 .f32) (b : Fin 32) :
    Host.reduceAdd (shapeCast S32x64 x shapeCasts_S32x64x1_S32x64) (constant S_ .f32 0x00000000#32)
      reducesTo_S32x64_S32_d1 h_S_ (ix1 b) = ∑ l : Fin 64, (x (ix3 b l 0) : EReal) := by
  pointwise

/-- The reference's prediction of a batch whose rows all have a finite greatest entry. -/
theorem preds_apply (u : FVec Ideal S32x64x1 .f32) (g : FVec Ideal S32x64x32000 .f32) (tok : IVec S32x64 32) (b : Fin 32)
    (ht : ∀ l, top (rowOf g b l) ≠ ⊤) (hb : ∀ l, top (rowOf g b l) ≠ ⊥) :
    preds u g tok (ix1 b) = pred (rowOf g b) (fun l => u (ix3 b l 0)) (tokOf tok b) := by
  have hs : (fun l => (scores g tok (ix2 b l) : EReal)) = score (rowOf g b) (tokOf tok b) :=
    funext fun l => scores_apply g tok b l (ht l) (hb l)
  have hw := weights_apply tok b
  have hm : ∀ l, mulf u (weights tok) (ix3 b l 0) = (u (ix3 b l 0) * weight (tokOf tok b) l : EReal) :=
    fun l => congrArg (fun z : EReal => (u (ix3 b l 0) : EReal) * z) (hw l)
  unfold preds pred
  rw [ValueIdx.hostDivf_apply, picked_sum, row_sum, hs]
  simp only [hm, hw]

/-- The reference's label of a batch. -/
theorem labels_apply (u : FVec Ideal S32x64x1 .f32) (tok : IVec S32x64 32) (b : Fin 32) :
    labels u tok (ix1 b) = label (fun l => u (ix3 b l 0)) (tokOf tok b) := by
  have hw := weights_apply tok b
  have hm : ∀ l, mulf u (weights tok) (ix3 b l 0) = (u (ix3 b l 0) * weight (tokOf tok b) l : EReal) :=
    fun l => congrArg (fun z : EReal => (u (ix3 b l 0) : EReal) * z) (hw l)
  unfold labels label
  rw [ValueIdx.hostDivf_apply, row_sum, ValueIdx.broadcastInDim_scalar_apply]
  simp only [hm]
  rfl

end Cert.ReferenceIdeal.Stages
-- ==== Proof.RefLoss.lean ====
/- The loss of 32 predictions, labels and times in plain mathematics, and that the reference's last stage is it. -/
module

public import proofs.«01_k».proof.Proof.RefPicks

@[expose] public section

set_option maxRecDepth 16384

noncomputable section

namespace Cert.Spec

open Idealize.ShloMosaic

/-- One where a difference lies strictly between zero and the bound, in size; zero elsewhere. -/
def close (b d : EReal) : EReal :=
  (((IntOp.andi (Ideal.cmp .olt (max d (-d)) b) (Ideal.cmp .ogt (max d (-d)) 0)).toNat : ℝ) : EReal)

/-- A pair counts where its labels differ by less than one and its times by less than 0.12, and neither agrees. -/
def pairWeight (dl dt : EReal) : EReal := close (Ideal.ofBits .f32 0x3F800000#32) dl * close (Ideal.ofBits .f32 0x3DF5C28F#32) dt

/-- What a pair adds to the loss. -/
def pairLoss (dp dl dt : EReal) : EReal :=
  pairWeight dl dt * max (-(Ideal.sign dl * close (Ideal.ofBits .f32 0x3DF5C28F#32) dt) * dp) 0

/-- The ranking loss of predictions `p`, labels `l` and times `t`: the mean over the counted pairs. -/
def rankLoss (p l t : Fin 32 → EReal) : EReal :=
  Ideal.div (∑ x : Fin 32 × Fin 32, pairLoss (p x.2 - p x.1) (l x.2 - l x.1) (t x.2 - t x.1))
    ((∑ x : Fin 32 × Fin 32, pairWeight (l x.2 - l x.1) (t x.2 - t x.1)) + Ideal.ofBits .f32 0x322BCC77#32)
    * Ideal.ofBits .f32 0x3F800000#32

end Cert.Spec

namespace Cert.ReferenceIdeal.Stages

open Idealize.ShloMosaic Cert.Spec
open Cert.ReferenceIdeal Cert.ReferenceIdeal.Gen

/-- A tiled vector at row `i`, column `j` is the vector at `j`. -/
theorem tile_apply (x : FVec Ideal S32 .f32) (i j : Fin 32) : tile x (ix2 i j) = x (ix1 j) := by
  unfold tile
  pointwise

/-- The differences at row `i`, column `j` are entry `j` less entry `i`. -/
theorem diff_apply (x : FVec Ideal S32 .f32) (i j : Fin 32) : diff x (ix2 i j) = (x (ix1 j) - x (ix1 i) : EReal) := by
  rw [← tile_apply x i j, ← tile_apply x j i]
  unfold diff
  generalize tile x = y
  pointwise

/-- The reference's test of a difference is `close` at every pair. -/
theorem near_apply (b : BitVec 32) (d : FVec Ideal S32x32 .f32) (i j : Fin 32) :
    near b d (ix2 i j) = close (Ideal.ofBits .f32 b) (d (ix2 i j)) := by
  unfold near close
  rw [← ofBits_zero_f32]
  rfl

/-- The reference's sum over a square is the sum over all pairs. -/
theorem total_apply (x : FVec Ideal S32x32 .f32) :
    Host.reduceAdd x (constant S_ .f32 0x00000000#32) reducesTo_S32x32_S_d0_1 h_S_ ValueIdx.ix0
      = ∑ y : Fin 32 × Fin 32, (x (ix2 y.1 y.2) : EReal) := by
  pointwise
  exact (Fintype.sum_prod_type fun y : Fin 32 × Fin 32 => (x (ix2 y.1 y.2) : EReal)).symm

/-- The reference's loss is the ranking loss of its predictions, labels and times. -/
theorem loss_eq (p l t : FVec Ideal S32 .f32) :
    loss p l t ValueIdx.ix0 = rankLoss (fun i => p (ix1 i)) (fun i => l (ix1 i)) (fun i => t (ix1 i)) := by
  have hw : ∀ y : Fin 32 × Fin 32, (mulf (near 0x3F800000#32 (diff l)) (near 0x3DF5C28F#32 (diff t)) (ix2 y.1 y.2) : EReal)
      = pairWeight (l (ix1 y.2) - l (ix1 y.1)) (t (ix1 y.2) - t (ix1 y.1)) := by
    intro y
    unfold pairWeight
    rw [← diff_apply, ← diff_apply, ← near_apply, ← near_apply]
    rfl
  have hl : ∀ y : Fin 32 × Fin 32, (mulf (mulf (near 0x3F800000#32 (diff l)) (near 0x3DF5C28F#32 (diff t)))
      (maximumf (mulf (Host.negf (mulf (Host.sign (diff l)) (near 0x3DF5C28F#32 (diff t)))) (diff p))
        (broadcastInDim S32x32 ![] bcast_S_S32x32 (constant S_ .f32 0x00000000#32))) (ix2 y.1 y.2) : EReal)
      = pairLoss (p (ix1 y.2) - p (ix1 y.1)) (l (ix1 y.2) - l (ix1 y.1)) (t (ix1 y.2) - t (ix1 y.1)) := by
    intro y
    unfold pairLoss
    rw [← hw, ← diff_apply, ← diff_apply, ← diff_apply, ← near_apply, ← ofBits_zero_f32]
    rfl
  unfold rankLoss
  simp only [← hw, ← hl]
  rw [← total_apply, ← total_apply]
  rfl

end Cert.ReferenceIdeal.Stages
-- ==== Proof.KernelLoss.lean ====
/- The loss the kernel stores at its last point is the ranking loss of its predictions, labels and times. -/
module

public import proofs.«01_k».proof.Proof.RefLoss

@[expose] public section

set_option maxRecDepth 16384

noncomputable section

namespace Cert.KernelIdeal.Region

open Idealize.ShloMosaic Cert.Spec
open Cert.KernelIdeal.Gen

/-- The zero word is the number zero. -/
theorem zero_word : (Scalar.ofBits (F := Ideal) .f32 0x00000000#32 : EReal) = 0 := by
  show Ideal.ofBits .f32 0x00000000#32 = 0
  simp [Ideal.ofBits, Ideal.ieee]

/-- The kernel's test of a difference: the bits as words and then as numbers. -/
def within (b : BitVec 32) (d : FVec Ideal S32x32 .f32) : FVec Ideal S32x32 .f32 :=
  sitofp .f32 (extui 32 (andi (cmpf .olt (absf d) (broadcast S32x32 (Scalar.ofBits .f32 b)))
    (cmpf .ogt (absf d) (broadcast S32x32 (Scalar.ofBits .f32 0x00000000#32)))) natLt_1_32)

/-- The kernel's test of a difference is `close` at every pair. -/
theorem within_apply (b : BitVec 32) (d : FVec Ideal S32x32 .f32) (i j : Fin 32) :
    within b d (ix2 i j) = close (Ideal.ofBits .f32 b) (d (ix2 i j)) := by
  have hw : ∀ w : BitVec 1, (((w.setWidth 32).toInt : ℝ) : EReal) = ((w.toNat : ℝ) : EReal) := by
    intro w
    have : w = 0#1 ∨ w = 1#1 := by
      have := w.isLt
      rcases (by omega : w.toNat = 0 ∨ w.toNat = 1) with h | h
      · exact .inl (BitVec.eq_of_toNat_eq h)
      · exact .inr (BitVec.eq_of_toNat_eq h)
    rcases this with rfl | rfl <;> simp
  unfold close
  rw [← zero_word]
  exact hw _

/-- The differences of a row and a column. -/
theorem differences_apply (r : Vec Ideal S1x32 .f32) (c : Vec Ideal S32x1 .f32) (i j : Fin 32) :
    k0_pay3 r c (ix2 i j) = (r (ix2 0 j) - c (ix2 i 0) : EReal) := by
  have h : k0_pay3 r c = subf (broadcastTo S32x32 (r : FVec Ideal S1x32 .f32) broadcasts_S1x32_S32x32)
    (broadcastTo S32x32 (c : FVec Ideal S32x1 .f32) broadcasts_S32x1_S32x32) := rfl
  rw [h]
  pointwise

/-- The kernel's sign of a difference. -/
def signOf (d : FVec Ideal S32x32 .f32) : FVec Ideal S32x32 .f32 :=
  select (cmpf .ogt (absf d) (broadcast S32x32 (Scalar.ofBits .f32 0x00000000#32)))
    (select (cmpf .olt d (constant S32x32 .f32 0x00000000#32)) (constant S32x32 .f32 0xBF800000#32) (constant S32x32 .f32 0x3F800000#32)) d

/-- The kernel's sign of a difference is the sign at every pair. -/
theorem signOf_apply (d : FVec Ideal S32x32 .f32) (i j : Fin 32) : signOf d (ix2 i j) = Ideal.sign (d (ix2 i j)) := by
  have hm : Ideal.ofBits .f32 0xBF800000#32 = ((-1 : ℝ) : EReal) := by
    simp [Ideal.ofBits, Ideal.ieee, -EReal.coe_mul, -EReal.coe_neg]; norm_num
  have h1 : Ideal.ofBits .f32 0x3F800000#32 = 1 := Ideal.ofBits_one_f32
  have hz : Ideal.ofBits .f32 0x00000000#32 = 0 := by simp [Ideal.ofBits, Ideal.ieee]
  have e : signOf d (ix2 i j) = Scalar.select (Ideal.cmp .ogt (max (d (ix2 i j)) (-(d (ix2 i j)))) (Ideal.ofBits .f32 0x00000000#32))
      (Scalar.select (Ideal.cmp .olt (d (ix2 i j)) (Ideal.ofBits .f32 0x00000000#32)) (Ideal.ofBits .f32 0xBF800000#32)
        (Ideal.ofBits .f32 0x3F800000#32)) (d (ix2 i j)) := rfl
  rw [e, hm, h1, hz]
  generalize (d (ix2 i j) : EReal) = x
  have hlt : ∀ a b : EReal, Ideal.cmp .olt a b = BitVec.ofBool (decide (a < b)) := fun _ _ => rfl
  have hgt : ∀ a b : EReal, Ideal.cmp .ogt a b = BitVec.ofBool (decide (b < a)) := fun _ _ => rfl
  rw [hlt, hgt]
  unfold Scalar.select
  rcases lt_trichotomy x 0 with h | h | h
  · have ha : 0 < max x (-x) := lt_max_of_lt_right (EReal.neg_pos.2 h)
    simp only [ha, h, decide_true, BitVec.ofBool_true, if_true]
    induction x using EReal.rec with
    | bot => exact EReal.coe_neg 1
    | coe r =>
      have hr : r < 0 := EReal.coe_neg'.1 h
      show _ = ((SignType.sign r : ℝ) : EReal)
      rw [sign_neg hr]
      simp
    | top => exact absurd h (by simp)
  · subst h
    have : ¬ (0 : EReal) < max 0 (-0) := by simp
    simp only [this, decide_false, BitVec.ofBool_false]
    rw [if_neg (by decide)]
    show (0 : EReal) = ((SignType.sign (0 : ℝ) : ℝ) : EReal)
    simp
  · have ha : 0 < max x (-x) := lt_max_of_lt_left h
    simp only [ha, not_lt.2 h.le, decide_true, decide_false, BitVec.ofBool_true, BitVec.ofBool_false, if_true]
    rw [if_neg (by decide)]
    induction x using EReal.rec with
    | bot => exact absurd h (by simp)
    | coe r =>
      have hr : 0 < r := EReal.coe_pos.1 h
      show _ = ((SignType.sign r : ℝ) : EReal)
      rw [sign_pos hr]
      simp
    | top => rfl

/-- The sum of a square, as the kernel takes it. -/
def squareSum (x : FVec Ideal S32x32 .f32) : EReal :=
  extractAt ![0, 0, 0] (shapeCast S1x1x1 (multiReduction .add [1, 2] S1 (shapeCast S1x32x32 x shapeCasts_S32x32_S1x32x32)
    0x00000000#32 reduces_S1x32x32_S1 (.inl rfl) rfl) shapeCasts_S1_S1x1x1) inpos_S1x1x1_p0_0_0

/-- The kernel's sum over a square is the sum over all pairs. -/
theorem squareSum_eq (x : FVec Ideal S32x32 .f32) : squareSum x = ∑ y : Fin 32 × Fin 32, (x (ix2 y.1 y.2) : EReal) := by
  unfold squareSum
  pointwise
  exact (Fintype.sum_prod_type fun y : Fin 32 × Fin 32 => (x (ix2 y.1 y.2) : EReal)).symm

/-- The kernel's last stage: the weighted sum over the pairs, over the pairs' weight. -/
theorem stage_eq (v216 : Vec Ideal S1x32 .f32) (v217 : Vec Ideal S32x1 .f32) (v248 v257 v258 : FVec Ideal S32x32 .f32) :
    k0_pay1 v216 v217 v248 v257 v258 (ix2 0 0) = Ideal.div
      (squareSum (mulf v257 (maximumf (mulf (subf v258 v248) (k0_pay3 v216 v217)) (broadcast S32x32 (Scalar.ofBits .f32 0x00000000#32)))))
      (squareSum v257 + Ideal.ofBits .f32 0x322BCC77#32) * Ideal.ofBits .f32 0x3F800000#32 := rfl

variable (x3 : Vec Ideal S1x32 .f32) (x4 : Vec Ideal S32x1 .f32) (pr : Vec Ideal S1x32 .f32) (pc : Vec Ideal S32x1 .f32)
    (lr : Vec Ideal S1x32 .f32) (lc : Vec Ideal S32x1 .f32)

/-- The kernel's time mask. -/
theorem time_apply (i j : Fin 32) :
    k0_pay2 x3 x4 (ix2 i j) = close (Ideal.ofBits .f32 0x3DF5C28F#32) (x3 (ix2 0 j) - x4 (ix2 i 0)) := by
  have h : k0_pay2 x3 x4 = within 0x3DF5C28F#32 (k0_pay3 (shapeCast S1x32 x3 shapeCasts_S1x32_S1x32)
    (shapeCast S32x1 x4 shapeCasts_S32x1_S32x1)) := rfl
  rw [h, within_apply, differences_apply, shapeCast_self, shapeCast_self]

/-- The kernel's weight of a pair. -/
theorem pairs_apply (i j : Fin 32) :
    k0_pay5 lr lc x3 x4 (ix2 i j) = pairWeight (lr (ix2 0 j) - lc (ix2 i 0)) (x3 (ix2 0 j) - x4 (ix2 i 0)) := by
  unfold pairWeight
  rw [← time_apply, ← differences_apply, ← within_apply]
  rfl

/-- The kernel's loss is the ranking loss. -/
theorem lossOf_eq (p l t : Fin 32 → EReal) (h3 : ∀ j, x3 (ix2 0 j) = t j) (h4 : ∀ i, x4 (ix2 i 0) = t i)
    (hpr : ∀ j, pr (ix2 0 j) = p j) (hpc : ∀ i, pc (ix2 i 0) = p i) (hlr : ∀ j, lr (ix2 0 j) = l j)
    (hlc : ∀ i, lc (ix2 i 0) = l i) : lossOf x3 x4 pr pc lr lc (ix2 0 0) = rankLoss p l t := by
  have hw : ∀ y : Fin 32 × Fin 32, (k0_pay5 lr lc x3 x4 (ix2 y.1 y.2) : EReal) = pairWeight (l y.2 - l y.1) (t y.2 - t y.1) := by
    intro y
    rw [pairs_apply, h3, h4, hlr, hlc]
  have hl : ∀ y : Fin 32 × Fin 32, (mulf (k0_pay5 lr lc x3 x4) (maximumf (mulf (subf k0_pay6 (k0_pay4 lr lc x3 x4)) (k0_pay3 pr pc))
      (broadcast S32x32 (Scalar.ofBits .f32 0x00000000#32))) (ix2 y.1 y.2) : EReal)
      = pairLoss (p y.2 - p y.1) (l y.2 - l y.1) (t y.2 - t y.1) := by
    intro y
    have hs : (k0_pay4 lr lc x3 x4 (ix2 y.1 y.2) : EReal)
        = Ideal.sign (l y.2 - l y.1) * close (Ideal.ofBits .f32 0x3DF5C28F#32) (t y.2 - t y.1) := by
      rw [← hlr, ← hlc, ← h3, ← h4, ← time_apply, ← differences_apply, ← signOf_apply]
      rfl
    have hp : (k0_pay3 pr pc (ix2 y.1 y.2) : EReal) = p y.2 - p y.1 := by rw [differences_apply, hpr, hpc]
    unfold pairLoss
    rw [← hw, ← hs, ← hp, ← zero_sub, ← zero_word]
    rfl
  unfold rankLoss
  simp only [← hw, ← hl]
  rw [← squareSum_eq, ← squareSum_eq]
  exact stage_eq _ _ _ _ _

end Cert.KernelIdeal.Region
-- ==== Proof.Blocks.lean ====
/- What the kernel's blocks hold: batch `t`'s rows of the arguments at point `t`, and all the times. -/
module

public import proofs.«01_k».proof.Proof.KernelLoss

@[expose] public section

set_option maxRecDepth 16384

noncomputable section

namespace Cert.KernelIdeal.Region

open Idealize.ShloMosaic Idealize.ShloMosaic.TcCoe Idealize.ShloMosaic.Pipeline
open Cert.KernelIdeal Cert.KernelIdeal.Gen

/-- A batch as a grid point. -/
abbrev ptOf (b : Fin 32) : Fin cfg0.N := pt b.val b.isLt

/-- The block index along the batches is the batch. -/
theorem coord_word (b : Fin 32) : (BitVec.ofNat 32 (grid0.coords (ptOf b) 0).val).toNat = b.val := by
  rw [coord, BitVec.toNat_ofNat]
  show b.val % 2 ^ 32 = b.val
  omega

variable (m : (ℓ : Loc nD τ sig) → Buf (Elt Ideal) ℓ) (c : Dev nD)

/-- The region's logits are the argument's, with batch and position made one row number. -/
theorem V_rows : V m c main_v0 = shapeCast S2048x32000 (m ((c.tc : Thread nD τ).loc main_arg2)) shapeCasts_S32x64x32000_S2048x32000 := by
  show StableHlo.after (List.flatten [hostOps0]) (fun b => m (c, b)) (Proc.devRef .tc main_v0) = _
  simp only [hostOps0, List.flatten_cons, List.flatten_nil, List.append_nil]
  after_results_simp
  rfl

/-- The region's row of times is the argument's times. -/
theorem V_timesRow : V m c main_v1 = shapeCast S1x32 (m ((c.tc : Thread nD τ).loc main_arg3)) shapeCasts_S32_S1x32 := by
  show StableHlo.after (List.flatten [hostOps0]) (fun b => m (c, b)) (Proc.devRef .tc main_v1) = _
  simp only [hostOps0, List.flatten_cons, List.flatten_nil, List.append_nil]
  after_results_simp
  rfl

/-- The region's column of times is the argument's times. -/
theorem V_timesCol : V m c main_v2 = shapeCast S32x1 (m ((c.tc : Thread nD τ).loc main_arg3)) shapeCasts_S32_S32x1 := by
  show StableHlo.after (List.flatten [hostOps0]) (fun b => m (c, b)) (Proc.devRef .tc main_v2) = _
  simp only [hostOps0, List.flatten_cons, List.flatten_nil, List.append_nil]
  after_results_simp
  rfl

/-- The region's tokens are the argument's, each alone on a last axis. -/
theorem V_tokens : V m c main_v3 = shapeCast S32x64x1 (m ((c.tc : Thread nD τ).loc main_arg4)) shapeCasts_S32x64_S32x64x1 := by
  show StableHlo.after (List.flatten [hostOps0]) (fun b => m (c, b)) (Proc.devRef .tc main_v3) = _
  simp only [hostOps0, List.flatten_cons, List.flatten_nil, List.append_nil]
  after_results_simp
  rfl

/-- Row `l` of batch `b`'s block of logits is row `64 b + l` of the whole. -/
theorem emb_rows (b : Fin 32) (l : Fin 64) (k : Fin 32000) :
    ((cfg0.win 0).blk (ptOf b)).view.emb (ix2 l k : S64x32000.Idx) = (ix2 ⟨b.val * 64 + l.val, by omega⟩ k : S2048x32000.Idx) := by
  have e := coord_word b
  funext (a : Fin 2); apply Fin.ext
  match a with
  | ⟨0, _⟩ =>
    show (BitVec.ofNat 32 (grid0.coords (ptOf b) 0).val).toNat * 64 + 1 * l.val = b.val * 64 + l.val
    omega
  | ⟨1, _⟩ => show 0 * 32000 + 1 * k.val = k.val; omega

/-- Position `l` of batch `b`'s block of unlabelled logits is position `(b, l)` of the whole. -/
theorem emb_logits (b : Fin 32) (l : Fin 64) :
    ((cfg0.win 1).blk (ptOf b)).view.emb (ix3 0 l 0 : S1x64x1.Idx) = (ix3 b l 0 : S32x64x1.Idx) := by
  have e := coord_word b
  funext (a : Fin 3); apply Fin.ext
  match a with
  | ⟨0, _⟩ =>
    show (BitVec.ofNat 32 (grid0.coords (ptOf b) 0).val).toNat * 1 + 1 * 0 = b.val
    omega
  | ⟨1, _⟩ => show 0 * 64 + 1 * l.val = l.val; omega
  | ⟨2, _⟩ => rfl

/-- Position `l` of batch `b`'s block of targets is position `(b, l)` of the whole. -/
theorem emb_targets (b : Fin 32) (l : Fin 64) :
    ((cfg0.win 2).blk (ptOf b)).view.emb (ix3 0 l 0 : S1x64x1.Idx) = (ix3 b l 0 : S32x64x1.Idx) := by
  have e := coord_word b
  funext (a : Fin 3); apply Fin.ext
  match a with
  | ⟨0, _⟩ =>
    show (BitVec.ofNat 32 (grid0.coords (ptOf b) 0).val).toNat * 1 + 1 * 0 = b.val
    omega
  | ⟨1, _⟩ => show 0 * 64 + 1 * l.val = l.val; omega
  | ⟨2, _⟩ => rfl

/-- Position `l` of batch `b`'s block of tokens is position `(b, l)` of the whole. -/
theorem emb_tokens (b : Fin 32) (l : Fin 64) :
    ((cfg0.win 5).blk (ptOf b)).view.emb (ix3 0 l 0 : S1x64x1.Idx) = (ix3 b l 0 : S32x64x1.Idx) := by
  have e := coord_word b
  funext (a : Fin 3); apply Fin.ext
  match a with
  | ⟨0, _⟩ =>
    show (BitVec.ofNat 32 (grid0.coords (ptOf b) 0).val).toNat * 1 + 1 * 0 = b.val
    omega
  | ⟨1, _⟩ => show 0 * 64 + 1 * l.val = l.val; omega
  | ⟨2, _⟩ => rfl

/-- Every point's block of the row of times is the whole row. -/
theorem emb_timesRow (t : Fin cfg0.N) (j : Fin 32) :
    ((cfg0.win 3).blk t).view.emb (ix2 0 j : S1x32.Idx) = (ix2 0 j : S1x32.Idx) := by
  funext (a : Fin 2); apply Fin.ext
  match a with
  | ⟨0, _⟩ => rfl
  | ⟨1, _⟩ => show 0 * 32 + 1 * j.val = j.val; omega

/-- Every point's block of the column of times is the whole column. -/
theorem emb_timesCol (t : Fin cfg0.N) (i : Fin 32) :
    ((cfg0.win 4).blk t).view.emb (ix2 i 0 : S32x1.Idx) = (ix2 i 0 : S32x1.Idx) := by
  funext (a : Fin 2); apply Fin.ext
  match a with
  | ⟨0, _⟩ => show 0 * 32 + 1 * i.val = i.val; omega
  | ⟨1, _⟩ => rfl

/-- Splitting the first axis of the flattened rows. -/
theorem rows_apply (x : FVec Ideal S32x64x32000 .f32) (b : Fin 32) (l : Fin 64) (k : Fin 32000) :
    shapeCast S2048x32000 x shapeCasts_S32x64x32000_S2048x32000 (ix2 ⟨b.val * 64 + l.val, by omega⟩ k) = x (ix3 b l k) := by
  pointwise

/-- Window 0's block at batch `b` holds the batch's rows. -/
theorem iblk_rows (b : Fin 32) (l : Fin 64) (k : Fin 32000) :
    iblk m c 0 (ptOf b) (ix2 l k : S64x32000.Idx) = m ((c.tc : Thread nD τ).loc main_arg2) (ix3 b l k) := by
  show V m c main_v0 (((cfg0.win 0).blk (ptOf b)).view.emb (ix2 l k : S64x32000.Idx)) = _
  rw [emb_rows, V_rows]
  exact rows_apply _ b l k

/-- Window 1's block at batch `b` holds the batch's logits. -/
theorem iblk_logits (b : Fin 32) (l : Fin 64) :
    iblk m c 1 (ptOf b) (ix3 0 l 0 : S1x64x1.Idx) = m ((c.tc : Thread nD τ).loc main_arg0) (ix3 b l 0) := by
  show V m c main_arg0 (((cfg0.win 1).blk (ptOf b)).view.emb (ix3 0 l 0 : S1x64x1.Idx)) = _
  rw [emb_logits, V_main_arg0]

/-- Window 2's block at batch `b` holds the batch's targets. -/
theorem iblk_targets (b : Fin 32) (l : Fin 64) :
    iblk m c 2 (ptOf b) (ix3 0 l 0 : S1x64x1.Idx) = m ((c.tc : Thread nD τ).loc main_arg1) (ix3 b l 0) := by
  show V m c main_arg1 (((cfg0.win 2).blk (ptOf b)).view.emb (ix3 0 l 0 : S1x64x1.Idx)) = _
  rw [emb_targets, V_main_arg1]

/-- Window 5's block at batch `b` holds the batch's tokens. -/
theorem iblk_tokens (b : Fin 32) (l : Fin 64) :
    iblk m c 5 (ptOf b) (ix3 0 l 0 : S1x64x1.Idx) = m ((c.tc : Thread nD τ).loc main_arg4) (ix2 b l) := by
  show V m c main_v3 (((cfg0.win 5).blk (ptOf b)).view.emb (ix3 0 l 0 : S1x64x1.Idx)) = _
  rw [emb_tokens, V_tokens]
  generalize m ((c.tc : Thread nD τ).loc main_arg4) = x
  have h : ∀ x : IVec S32x64 32, shapeCast S32x64x1 x shapeCasts_S32x64_S32x64x1 (ix3 b l 0) = x (ix2 b l) := by
    intro x; pointwise
  exact h x

/-- Window 3's block holds the times as a row. -/
theorem iblk_timesRow (t : Fin cfg0.N) (j : Fin 32) :
    iblk m c 3 t (ix2 0 j : S1x32.Idx) = m ((c.tc : Thread nD τ).loc main_arg3) (ix1 j) := by
  show V m c main_v1 (((cfg0.win 3).blk t).view.emb (ix2 0 j : S1x32.Idx)) = _
  rw [emb_timesRow, V_timesRow]
  generalize m ((c.tc : Thread nD τ).loc main_arg3) = x
  have h : ∀ x : FVec Ideal S32 .f32, shapeCast S1x32 x shapeCasts_S32_S1x32 (ix2 0 j) = x (ix1 j) := by
    intro x; pointwise
  exact h x

/-- Window 4's block holds the times as a column. -/
theorem iblk_timesCol (t : Fin cfg0.N) (i : Fin 32) :
    iblk m c 4 t (ix2 i 0 : S32x1.Idx) = m ((c.tc : Thread nD τ).loc main_arg3) (ix1 i) := by
  show V m c main_v2 (((cfg0.win 4).blk t).view.emb (ix2 i 0 : S32x1.Idx)) = _
  rw [emb_timesCol, V_timesCol]
  generalize m ((c.tc : Thread nD τ).loc main_arg3) = x
  have h : ∀ x : FVec Ideal S32 .f32, shapeCast S32x1 x shapeCasts_S32_S32x1 (ix2 i 0) = x (ix1 i) := by
    intro x; pointwise
  exact h x

end Cert.KernelIdeal.Region
-- ==== Proof.Equation.lean ====
/- The equation: where every row has a finite greatest entry, the kernel's result is the reference's. -/
module

public import proofs.«01_k».proof.Proof.Blocks

@[expose] public section

set_option maxRecDepth 16384

noncomputable section

namespace Cert.KernelIdeal.Region

open Idealize.ShloMosaic Idealize.ShloMosaic.TcCoe Cert.Spec
open Cert.KernelIdeal Cert.KernelIdeal.Gen
open Cert.ReferenceIdeal.Stages (tokOf rowOf)

variable (m : (ℓ : Loc nD τ sig) → Buf (Elt Ideal) ℓ) (c : Dev nD)

/-- The arguments, as launched. -/
abbrev uArg : FVec Ideal S32x64x1 .f32 := m ((c.tc : Thread nD τ).loc main_arg0)
/-- The second argument: the targets. -/
abbrev yArg : FVec Ideal S32x64x1 .f32 := m ((c.tc : Thread nD τ).loc main_arg1)
/-- The third argument: the logits of the vocabulary. -/
abbrev gArg : FVec Ideal S32x64x32000 .f32 := m ((c.tc : Thread nD τ).loc main_arg2)
/-- The fourth argument: the times. -/
abbrev tArg : FVec Ideal S32 .f32 := m ((c.tc : Thread nD τ).loc main_arg3)
/-- The fifth argument: the tokens. -/
abbrev kArg : IVec S32x64 32 := m ((c.tc : Thread nD τ).loc main_arg4)

/-- The tokens of batch `b`'s block. -/
theorem tokAt_eq (b : Fin 32) : tokAt (iblk m c 5 (ptOf b)) = tokOf (kArg m c) b := funext fun l => iblk_tokens m c b l

/-- Batch `b`'s prediction. -/
theorem predAt_eq (b : Fin 32) :
    predAt m c (ptOf b) = pred (rowOf (gArg m c) b) (fun l => uArg m c (ix3 b l 0)) (tokOf (kArg m c) b) := by
  unfold predAt
  rw [← tokAt_eq]
  refine (predOf_spec _ _ _).trans ?_
  have hg : (fun (l : Fin 64) (k : Fin 32000) => (iblk m c 0 (ptOf b) (ix2 l k : S64x32000.Idx) : EReal)) = rowOf (gArg m c) b :=
    funext fun l => funext fun k => iblk_rows m c b l k
  have hu : (fun l : Fin 64 => (iblk m c 1 (ptOf b) (ix3 0 l 0 : S1x64x1.Idx) : EReal)) = fun l => uArg m c (ix3 b l 0) :=
    funext fun l => iblk_logits m c b l
  rw [← hg, ← hu]

/-- Batch `b`'s label. -/
theorem labelAt_eq (b : Fin 32) :
    labelAt m c (ptOf b) = label (fun l => yArg m c (ix3 b l 0)) (tokOf (kArg m c) b) := by
  unfold labelAt
  rw [← tokAt_eq]
  refine (labelOf_eq _ _).trans ?_
  have hu : (fun l : Fin 64 => (iblk m c 2 (ptOf b) (ix3 0 l 0 : S1x64x1.Idx) : EReal)) = fun l => yArg m c (ix3 b l 0) :=
    funext fun l => iblk_targets m c b l
  rw [← hu]

/-- The loss the kernel stores. -/
theorem lossAt_eq : lossAt m c lastPt (ix2 0 0 : S1x1.Idx) = rankLoss
    (fun b => pred (rowOf (gArg m c) b) (fun l => uArg m c (ix3 b l 0)) (tokOf (kArg m c) b))
    (fun b => label (fun l => yArg m c (ix3 b l 0)) (tokOf (kArg m c) b)) (fun b => tArg m c (ix1 b)) :=
  lossOf_eq _ _ _ _ _ _ _ _ _ (fun j => iblk_timesRow m c lastPt j) (fun i => iblk_timesCol m c lastPt i)
    (fun j => predAt_eq m c j) (fun i => predAt_eq m c i) (fun j => labelAt_eq m c j) (fun i => labelAt_eq m c i)

/-- The kernel's result is the reference's loss of the same arguments, every row of the logits having a finite greatest
    entry. -/
theorem out_eq (ht : ∀ b l, top (rowOf (gArg m c) b l) ≠ ⊤) (hb : ∀ b l, top (rowOf (gArg m c) b l) ≠ ⊥) :
    out m c = Cert.ReferenceIdeal.Stages.loss (Cert.ReferenceIdeal.Stages.preds (uArg m c) (gArg m c) (kArg m c))
      (Cert.ReferenceIdeal.Stages.labels (yArg m c) (kArg m c)) (tArg m c) := by
  funext y
  have hy : y = (ValueIdx.ix0 : S_.Idx) := funext fun a => a.elim0
  rw [hy]
  refine Eq.trans ?_ (Cert.ReferenceIdeal.Stages.loss_eq _ _ _).symm
  simp only [Cert.ReferenceIdeal.Stages.preds_apply _ _ _ _ (ht _) (hb _), Cert.ReferenceIdeal.Stages.labels_apply]
  have h : ∀ x : FVec Ideal S1x1 .f32, shapeCast S_ x shapeCasts_S1x1_S_ ValueIdx.ix0 = x (ix2 0 0) := by
    intro x
    unfold shapeCast
    exact congrArg x (only _ _)
  exact (h (lossAt m c lastPt)).trans (lossAt_eq m c)

end Cert.KernelIdeal.Region
-- ==== Proof.Finite.lean ====
/- The precondition read back: every row's greatest entry is a real number. -/
module

public import proofs.«01_k».proof.Proof.Equation
public import proofs.«01_k».proof.Proof.Gen.Pre_finite_rows
public import Idealize.ShloMosaic.Lib.ReduceAll

@[expose] public section

set_option maxRecDepth 16384

noncomputable section

namespace Cert.Pre_finite_rows

open Idealize.ShloMosaic Cert.Spec

/-- The pattern of +∞. -/
theorem ofBits_inf : Ideal.ofBits .f32 0x7F800000#32 = ⊤ := by simp [Ideal.ofBits, Ideal.ieee]

/-- Where a value's size is below +∞ it is a real number. -/
theorem real_of_abs (x : EReal) (h : max x (-x) < ⊤) : x ≠ ⊤ ∧ x ≠ ⊥ := by
  constructor
  · rintro rfl; simp at h
  · rintro rfl; simp at h

/-- The test of the precondition at an index: the value there is a real number. -/
theorem real_of_test (x : FVec Ideal S32x64 .f32) (hb : S_.BroadcastsInDim S32x64 ![]) (i : S32x64.Idx)
    (h : cmpf .olt (Host.absf x) (broadcastInDim S32x64 ![] hb (constant S_ .f32 0x7F800000#32)) i = 1#1) :
    (x i : EReal) ≠ ⊤ ∧ (x i : EReal) ≠ ⊥ := by
  have hc : ∀ a c : EReal, Ideal.cmp .olt a c = 1#1 → a < c := by
    intro a c hac
    by_contra hn
    have : Ideal.cmp .olt a c = BitVec.ofBool (decide (a < c)) := rfl
    rw [this, decide_eq_false hn] at hac
    exact absurd hac (by decide)
  refine real_of_abs _ (hc _ _ ?_)
  rw [← ofBits_inf]
  exact h

/-- Under the precondition the greatest entry of each row is neither infinity. -/
theorem top_real (u y : FVec Ideal S32x64x1 .f32) (g : FVec Ideal S32x64x32000 .f32) (t : FVec Ideal S32 .f32)
    (k : IVec S32x64 32) (h : @fn Gen.facts Ideal _ u y g t k = fun _ => 1#1) (b : Fin 32) (l : Fin 64) :
    top (Cert.ReferenceIdeal.Stages.rowOf g b l) ≠ ⊤ ∧ top (Cert.ReferenceIdeal.Stages.rowOf g b l) ≠ ⊥ := by
  have hs : Subsingleton S_.Idx := ⟨fun a b => funext fun i => i.elim0⟩
  rw [← Cert.ReferenceIdeal.Stages.rowMax_apply]
  unfold fn at h
  dsimp only at h
  exact real_of_test _ _ _ (Host.reduce_andi_all _ _ _ _ _ (congrFun h ValueIdx.ix0) (ix2 b l))

end Cert.Pre_finite_rows
-- ==== Proof.lean ====
/- The certificate's claims, assembled: the two kernels' frames from their runs (Proof/KernelFrame.lean,
   Proof/IdealFrame.lean), the reference's from its run, the idealization by its one rule, and the value by the equation of
   the two results (Proof/Equation.lean) under the precondition (Proof/Finite.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_rows
public import proofs.«01_k».proof.Proof.KernelFrame
public import proofs.«01_k».proof.Proof.Finite

@[expose] public section

noncomputable section

namespace Cert.Proof

open Idealize.ShloMosaic Idealize.SL.Sem

/-- The kernel runs, leaving its arguments as launched and every counter at zero. -/
theorem frame_kernel : Cert.quiescent_Kernel := fun m ρ _ => Cert.Kernel.Region.frame m ρ

/-- So does the idealized kernel, -/
theorem frame_ideal : Cert.quiescent_KernelIdeal := fun m ρ _ => Cert.KernelIdeal.Region.frame m ρ

/-- and the reference, which declares no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- With finite rows the idealized kernel and the reference give the same loss. -/
theorem value : Cert.algebraic_KernelIdeal_ReferenceIdeal_pre_finite_rows := by
  intro m g m' g' hpre harg
  refine ⟨fun c => Cert.KernelIdeal.Region.out m c, Cert.KernelIdeal.Region.run_value m g, ?_⟩
  refine (θ_run Cert.ReferenceIdeal.defs _ _).mono (fun r h c => ⟨(h c).1.trans ?_, (h c).2⟩)
    (Cert.ReferenceIdeal.Value.run (F := Ideal) m' g')
  have hfin := Cert.Pre_finite_rows.top_real _ _ _ _ _ (hpre c)
  obtain ⟨h0, h1, h2, h3, h4⟩ := harg c
  rw [Cert.ReferenceIdeal.Stages.result_eq, h0, h1, h2, h3, h4]
  exact (Cert.KernelIdeal.Region.out_eq m c (fun b l => (hfin b l).1) (fun b l => (hfin b l).2)).symm

/-- The certificate. -/
theorem claim : Cert.Claim :=
  ⟨Cert.Kernel.Gen.facts, Cert.KernelIdeal.Gen.facts, Cert.ReferenceIdeal.Gen.facts, Cert.Pre_finite_rows.Gen.facts,
    frame_kernel, frame_ideal, fun m ρ _ => frame_ideal m ρ trivial, frame_reference,
    fun m ρ _ => frame_reference m ρ trivial, IdealRules.sign_bit.statement Cert.KernelIdeal.S32x32 .f32, value⟩

end Cert.Proof

end
